-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  IdealRules.bf16_pair.BufferStatement Cert.KernelIdeal.S20x2x256 Cert.KernelIdeal.S20x1x256
  ∧ IdealRules.bf16_pair.PackStatement Cert.KernelIdeal.S20x128
  ∧ IdealRules.bf16_pair.Statement Cert.KernelIdeal.S20x2x128 Cert.KernelIdeal.S20x1x128
  ∧ IdealRules.bf16_pair.Statement Cert.KernelIdeal.S1x2x256 Cert.KernelIdeal.S1x1x256
  ∧ IdealRules.bf16_pair.Statement Cert.KernelIdeal.S2x256 Cert.KernelIdeal.S1x256

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v70) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S5x1x2560 : Shape := ⟨3, ![5, 1, 2560]⟩
abbrev S_ : Shape := ⟨0, ![]⟩
abbrev S2560x5120 : Shape := ⟨2, ![2560, 5120]⟩
abbrev S20x10240 : Shape := ⟨2, ![20, 10240]⟩
abbrev S5x2560 : Shape := ⟨2, ![5, 2560]⟩
abbrev S1 : Shape := ⟨1, ![1]⟩
abbrev S5x10240 : Shape := ⟨2, ![5, 10240]⟩
abbrev S20x2560x256 : Shape := ⟨3, ![20, 2560, 256]⟩
abbrev S20x20x512 : Shape := ⟨3, ![20, 20, 512]⟩
abbrev S16x5120 : Shape := ⟨2, ![16, 5120]⟩
abbrev S20x256 : Shape := ⟨2, ![20, 256]⟩
abbrev S20 : Shape := ⟨1, ![20]⟩
abbrev S1x20x512 : Shape := ⟨3, ![1, 20, 512]⟩
abbrev S20x512 : Shape := ⟨2, ![20, 512]⟩
abbrev S1x2560x256 : Shape := ⟨3, ![1, 2560, 256]⟩
abbrev S2560x256 : Shape := ⟨2, ![2560, 256]⟩
abbrev S8x128 : Shape := ⟨2, ![8, 128]⟩
abbrev S3x128 : Shape := ⟨2, ![3, 128]⟩
abbrev S5x128 : Shape := ⟨2, ![5, 128]⟩
abbrev S8x128x1 : Shape := ⟨3, ![8, 128, 1]⟩
abbrev S16x128 : Shape := ⟨2, ![16, 128]⟩
abbrev S20x128 : Shape := ⟨2, ![20, 128]⟩
abbrev S1x20x128 : Shape := ⟨3, ![1, 20, 128]⟩
abbrev S20x128x1 : Shape := ⟨3, ![20, 128, 1]⟩
abbrev S16x256 : Shape := ⟨2, ![16, 256]⟩
abbrev S1x128x256 : Shape := ⟨3, ![1, 128, 256]⟩
abbrev S128x256 : Shape := ⟨2, ![128, 256]⟩
abbrev S128x1x256 : Shape := ⟨3, ![128, 1, 256]⟩
abbrev S128x2x256 : Shape := ⟨3, ![128, 2, 256]⟩
abbrev S256x256 : Shape := ⟨2, ![256, 256]⟩
abbrev S1x256 : Shape := ⟨2, ![1, 256]⟩
abbrev S2x256 : Shape := ⟨2, ![2, 256]⟩
abbrev S1x2x256 : Shape := ⟨3, ![1, 2, 256]⟩
abbrev S8x256 : Shape := ⟨2, ![8, 256]⟩
abbrev S5x256 : Shape := ⟨2, ![5, 256]⟩

abbrev nBuf : Space → Nat
  | .hbm => 9
  | .vmem => 9
  | .smem => 1
  | _ => 0

abbrev bufTy : (tb : Table) → Fin (tcTables nBuf tb) → BufTy
  | .hbm, ⟨0, _⟩ => ⟨S5x1x2560, .bf16⟩
  | .hbm, ⟨1, _⟩ => ⟨S_, .f32⟩
  | .hbm, ⟨2, _⟩ => ⟨S2560x5120, .i8⟩
  | .hbm, ⟨3, _⟩ => ⟨S20x10240, .f32⟩
  | .hbm, ⟨4, _⟩ => ⟨S2560x5120, .i8⟩
  | .hbm, ⟨5, _⟩ => ⟨S20x10240, .f32⟩
  | .hbm, ⟨6, _⟩ => ⟨S5x2560, .bf16⟩
  | .hbm, ⟨7, _⟩ => ⟨S1, .f32⟩
  | .hbm, ⟨8, _⟩ => ⟨S5x10240, .bf16⟩
  | .local _ .vmem, ⟨0, _⟩ => ⟨S5x2560, .bf16⟩
  | .local _ .vmem, ⟨1, _⟩ => ⟨S20x2560x256, .i8⟩
  | .local _ .vmem, ⟨2, _⟩ => ⟨S20x20x512, .f32⟩
  | .local _ .vmem, ⟨3, _⟩ => ⟨S20x2560x256, .i8⟩
  | .local _ .vmem, ⟨4, _⟩ => ⟨S20x20x512, .f32⟩
  | .local _ .vmem, ⟨5, _⟩ => ⟨S16x5120, .bf16⟩
  | .local _ .vmem, ⟨6, _⟩ => ⟨S20x256, .i32⟩
  | .local _ .vmem, ⟨7, _⟩ => ⟨S20x256, .i32⟩
  | .local _ .vmem, ⟨8, _⟩ => ⟨S5x10240, .bf16⟩
  | .local _ .smem, ⟨0, _⟩ => ⟨S1, .f32⟩
  | _, _ => ⟨S5x1x2560, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .smem, ⟨0, _⟩ => true
  | _, _ => false

abbrev semScoped : Fin 0 → Bool
  | ⟨_, h⟩ => absurd h (Nat.not_lt_zero _)

abbrev dmaSemScoped : Fin 83 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | _ => false

abbrev sig : RefSig :=
  ofTc nBuf bufTy 0 83 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev cc0_scratch0 : Ref sig .tc := ⟨.vmem, 0, rfl⟩
abbrev cc0_scratch1 : Ref sig .tc := ⟨.vmem, 1, rfl⟩
abbrev cc0_scratch2 : Ref sig .tc := ⟨.vmem, 2, rfl⟩
abbrev cc0_scratch3 : Ref sig .tc := ⟨.vmem, 3, rfl⟩
abbrev cc0_scratch4 : Ref sig .tc := ⟨.vmem, 4, rfl⟩
abbrev cc0_scratch5 : Ref sig .tc := ⟨.vmem, 5, rfl⟩
abbrev cc0_scratch6 : Ref sig .tc := ⟨.vmem, 6, rfl⟩
abbrev cc0_scratch7 : Ref sig .tc := ⟨.vmem, 7, rfl⟩
abbrev cc0_scratch8 : Ref sig .tc := ⟨.vmem, 8, rfl⟩
abbrev cc0_stg0_0 : Ref sig .tc := ⟨.smem, 0, rfl⟩
abbrev cc0_sem0_0 : DmaSem sig := 0

abbrev nD : Nat := 1
abbrev τ : Topo := Topo.v7x

variable {F : FTy → Type} [BitOps F]

abbrev grid0 : Pipeline.Grid := .none

@[reducible] def k0_t1_loop : Scf.Loop 32 :=
  let c0_i32_773_r0 : BitVec 32 := 0#32
  let c20_i32_r0 : BitVec 32 := 20#32
  let v1407_r0 : BitVec 32 := Scalar.addi c0_i32_773_r0 c20_i32_r0
  let c1_i32_774_r0 : BitVec 32 := 1#32
  ⟨c0_i32_773_r0, v1407_r0, c1_i32_774_r0⟩
def k0_off1 (k0_t1 : Fin k0_t1_loop.trips) : Fin 1 → Nat :=
  let c0_i32_773_r0 : BitVec 32 := 0#32
  let c1_i32_774_r0 : BitVec 32 := 1#32
  let arg22_r0 : BitVec 32 := Scf.iv c0_i32_773_r0 c1_i32_774_r0 k0_t1
  ![arg22_r0.toNat]
def k0_off2 (k0_t1 : Fin k0_t1_loop.trips) : Fin 3 → Nat :=
  let c0_i32_773_r0 : BitVec 32 := 0#32
  let c1_i32_774_r0 : BitVec 32 := 1#32
  let arg22_r0 : BitVec 32 := Scf.iv c0_i32_773_r0 c1_i32_774_r0 k0_t1
  let c0_i32_779_r0 : BitVec 32 := 0#32
  let c0_i32_780_r0 : BitVec 32 := 0#32
  ![arg22_r0.toNat, 0, 0]
def k0_off3 (k0_t1 : Fin k0_t1_loop.trips) : Fin 2 → Nat :=
  let c0_i32_781_r0 : BitVec 32 := 0#32
  let c0_i32_773_r0 : BitVec 32 := 0#32
  let c1_i32_774_r0 : BitVec 32 := 1#32
  let arg22_r0 : BitVec 32 := Scf.iv c0_i32_773_r0 c1_i32_774_r0 k0_t1
  let c2_i32_777_r0 : BitVec 32 := 2#32
  let v1409_r0 : BitVec 32 := Scalar.muli arg22_r0 c2_i32_777_r0
  let c256_i32_778_r0 : BitVec 32 := 256#32
  let v1410_r0 : BitVec 32 := Scalar.muli v1409_r0 c256_i32_778_r0
  ![0, v1410_r0.toNat]
def k0_off4 (k0_t1 : Fin k0_t1_loop.trips) : Fin 3 → Nat :=
  let c0_i32_773_r0 : BitVec 32 := 0#32
  let c1_i32_774_r0 : BitVec 32 := 1#32
  let arg22_r0 : BitVec 32 := Scf.iv c0_i32_773_r0 c1_i32_774_r0 k0_t1
  let c0_i32_785_r0 : BitVec 32 := 0#32
  let c0_i32_786_r0 : BitVec 32 := 0#32
  ![arg22_r0.toNat, 0, 0]
def k0_off5 (k0_t1 : Fin k0_t1_loop.trips) : Fin 2 → Nat :=
  let c0_i32_787_r0 : BitVec 32 := 0#32
  let c0_i32_773_r0 : BitVec 32 := 0#32
  let c1_i32_774_r0 : BitVec 32 := 1#32
  let arg22_r0 : BitVec 32 := Scf.iv c0_i32_773_r0 c1_i32_774_r0 k0_t1
  let c256_i32_776_r0 : BitVec 32 := 256#32
  let v1408_r0 : BitVec 32 := Scalar.muli arg22_r0 c256_i32_776_r0
  ![0, v1408_r0.toNat]
def k0_off6 (k0_t1 : Fin k0_t1_loop.trips) : Fin 3 → Nat :=
  let c0_i32_773_r0 : BitVec 32 := 0#32
  let c1_i32_774_r0 : BitVec 32 := 1#32
  let arg22_r0 : BitVec 32 := Scf.iv c0_i32_773_r0 c1_i32_774_r0 k0_t1
  let v1445_r0 : Index := Scalar.indexCast arg22_r0
  let c0_796_r0 : Index := 0#32
  let c0_797_r0 : Index := 0#32
  ![v1445_r0.toNat, 0, 0]
def k0_off7 (k0_t1 : Fin k0_t1_loop.trips) : Fin 3 → Nat :=
  let c0_i32_773_r0 : BitVec 32 := 0#32
  let c1_i32_774_r0 : BitVec 32 := 1#32
  let arg22_r0 : BitVec 32 := Scf.iv c0_i32_773_r0 c1_i32_774_r0 k0_t1
  let v1448_r0 : Index := Scalar.indexCast arg22_r0
  let c0_798_r0 : Index := 0#32
  let c128_799_r0 : Index := 128#32
  ![v1448_r0.toNat, 0, 128]
def k0_off8 (k0_t1 : Fin k0_t1_loop.trips) : Fin 3 → Nat :=
  let c0_i32_773_r0 : BitVec 32 := 0#32
  let c1_i32_774_r0 : BitVec 32 := 1#32
  let arg22_r0 : BitVec 32 := Scf.iv c0_i32_773_r0 c1_i32_774_r0 k0_t1
  let v1475_r0 : Index := Scalar.indexCast arg22_r0
  let c0_808_r0 : Index := 0#32
  let c256_809_r0 : Index := 256#32
  ![v1475_r0.toNat, 0, 256]
def k0_off9 (k0_t1 : Fin k0_t1_loop.trips) : Fin 3 → Nat :=
  let c0_i32_773_r0 : BitVec 32 := 0#32
  let c1_i32_774_r0 : BitVec 32 := 1#32
  let arg22_r0 : BitVec 32 := Scf.iv c0_i32_773_r0 c1_i32_774_r0 k0_t1
  let v1478_r0 : Index := Scalar.indexCast arg22_r0
  let c0_810_r0 : Index := 0#32
  let c384_811_r0 : Index := 384#32
  ![v1478_r0.toNat, 0, 384]
def k0_off10 (k0_t1 : Fin k0_t1_loop.trips) : Fin 3 → Nat :=
  let c0_i32_773_r0 : BitVec 32 := 0#32
  let c1_i32_774_r0 : BitVec 32 := 1#32
  let arg22_r0 : BitVec 32 := Scf.iv c0_i32_773_r0 c1_i32_774_r0 k0_t1
  let v1580_r0 : Index := Scalar.indexCast arg22_r0
  let c0_852_r0 : Index := 0#32
  let c0_853_r0 : Index := 0#32
  ![v1580_r0.toNat, 0, 0]
def k0_off11 (k0_t1 : Fin k0_t1_loop.trips) : Fin 3 → Nat :=
  let c0_i32_773_r0 : BitVec 32 := 0#32
  let c1_i32_774_r0 : BitVec 32 := 1#32
  let arg22_r0 : BitVec 32 := Scf.iv c0_i32_773_r0 c1_i32_774_r0 k0_t1
  let v1629_r0 : Index := Scalar.indexCast arg22_r0
  let c128_868_r0 : Index := 128#32
  let c0_869_r0 : Index := 0#32
  ![v1629_r0.toNat, 128, 0]
def k0_off12 (k0_t1 : Fin k0_t1_loop.trips) : Fin 3 → Nat :=
  let c0_i32_773_r0 : BitVec 32 := 0#32
  let c1_i32_774_r0 : BitVec 32 := 1#32
  let arg22_r0 : BitVec 32 := Scf.iv c0_i32_773_r0 c1_i32_774_r0 k0_t1
  let v1678_r0 : Index := Scalar.indexCast arg22_r0
  let c256_885_r0 : Index := 256#32
  let c0_886_r0 : Index := 0#32
  ![v1678_r0.toNat, 256, 0]
def k0_off13 (k0_t1 : Fin k0_t1_loop.trips) : Fin 3 → Nat :=
  let c0_i32_773_r0 : BitVec 32 := 0#32
  let c1_i32_774_r0 : BitVec 32 := 1#32
  let arg22_r0 : BitVec 32 := Scf.iv c0_i32_773_r0 c1_i32_774_r0 k0_t1
  let v1727_r0 : Index := Scalar.indexCast arg22_r0
  let c384_902_r0 : Index := 384#32
  let c0_903_r0 : Index := 0#32
  ![v1727_r0.toNat, 384, 0]
def k0_off14 (k0_t1 : Fin k0_t1_loop.trips) : Fin 3 → Nat :=
  let c0_i32_773_r0 : BitVec 32 := 0#32
  let c1_i32_774_r0 : BitVec 32 := 1#32
  let arg22_r0 : BitVec 32 := Scf.iv c0_i32_773_r0 c1_i32_774_r0 k0_t1
  let v1776_r0 : Index := Scalar.indexCast arg22_r0
  let c512_919_r0 : Index := 512#32
  let c0_920_r0 : Index := 0#32
  ![v1776_r0.toNat, 512, 0]
def k0_off15 (k0_t1 : Fin k0_t1_loop.trips) : Fin 3 → Nat :=
  let c0_i32_773_r0 : BitVec 32 := 0#32
  let c1_i32_774_r0 : BitVec 32 := 1#32
  let arg22_r0 : BitVec 32 := Scf.iv c0_i32_773_r0 c1_i32_774_r0 k0_t1
  let v1825_r0 : Index := Scalar.indexCast arg22_r0
  let c640_936_r0 : Index := 640#32
  let c0_937_r0 : Index := 0#32
  ![v1825_r0.toNat, 640, 0]
def k0_off16 (k0_t1 : Fin k0_t1_loop.trips) : Fin 3 → Nat :=
  let c0_i32_773_r0 : BitVec 32 := 0#32
  let c1_i32_774_r0 : BitVec 32 := 1#32
  let arg22_r0 : BitVec 32 := Scf.iv c0_i32_773_r0 c1_i32_774_r0 k0_t1
  let v1874_r0 : Index := Scalar.indexCast arg22_r0
  let c768_953_r0 : Index := 768#32
  let c0_954_r0 : Index := 0#32
  ![v1874_r0.toNat, 768, 0]
def k0_off17 (k0_t1 : Fin k0_t1_loop.trips) : Fin 3 → Nat :=
  let c0_i32_773_r0 : BitVec 32 := 0#32
  let c1_i32_774_r0 : BitVec 32 := 1#32
  let arg22_r0 : BitVec 32 := Scf.iv c0_i32_773_r0 c1_i32_774_r0 k0_t1
  let v1923_r0 : Index := Scalar.indexCast arg22_r0
  let c896_970_r0 : Index := 896#32
  let c0_971_r0 : Index := 0#32
  ![v1923_r0.toNat, 896, 0]
def k0_off18 (k0_t1 : Fin k0_t1_loop.trips) : Fin 3 → Nat :=
  let c0_i32_773_r0 : BitVec 32 := 0#32
  let c1_i32_774_r0 : BitVec 32 := 1#32
  let arg22_r0 : BitVec 32 := Scf.iv c0_i32_773_r0 c1_i32_774_r0 k0_t1
  let v1972_r0 : Index := Scalar.indexCast arg22_r0
  let c1024_987_r0 : Index := 1024#32
  let c0_988_r0 : Index := 0#32
  ![v1972_r0.toNat, 1024, 0]
def k0_off19 (k0_t1 : Fin k0_t1_loop.trips) : Fin 3 → Nat :=
  let c0_i32_773_r0 : BitVec 32 := 0#32
  let c1_i32_774_r0 : BitVec 32 := 1#32
  let arg22_r0 : BitVec 32 := Scf.iv c0_i32_773_r0 c1_i32_774_r0 k0_t1
  let v2021_r0 : Index := Scalar.indexCast arg22_r0
  let c1152_1004_r0 : Index := 1152#32
  let c0_1005_r0 : Index := 0#32
  ![v2021_r0.toNat, 1152, 0]
def k0_off20 (k0_t1 : Fin k0_t1_loop.trips) : Fin 3 → Nat :=
  let c0_i32_773_r0 : BitVec 32 := 0#32
  let c1_i32_774_r0 : BitVec 32 := 1#32
  let arg22_r0 : BitVec 32 := Scf.iv c0_i32_773_r0 c1_i32_774_r0 k0_t1
  let v2070_r0 : Index := Scalar.indexCast arg22_r0
  let c1280_1021_r0 : Index := 1280#32
  let c0_1022_r0 : Index := 0#32
  ![v2070_r0.toNat, 1280, 0]
def k0_off21 (k0_t1 : Fin k0_t1_loop.trips) : Fin 3 → Nat :=
  let c0_i32_773_r0 : BitVec 32 := 0#32
  let c1_i32_774_r0 : BitVec 32 := 1#32
  let arg22_r0 : BitVec 32 := Scf.iv c0_i32_773_r0 c1_i32_774_r0 k0_t1
  let v2119_r0 : Index := Scalar.indexCast arg22_r0
  let c1408_1038_r0 : Index := 1408#32
  let c0_1039_r0 : Index := 0#32
  ![v2119_r0.toNat, 1408, 0]
def k0_off22 (k0_t1 : Fin k0_t1_loop.trips) : Fin 3 → Nat :=
  let c0_i32_773_r0 : BitVec 32 := 0#32
  let c1_i32_774_r0 : BitVec 32 := 1#32
  let arg22_r0 : BitVec 32 := Scf.iv c0_i32_773_r0 c1_i32_774_r0 k0_t1
  let v2168_r0 : Index := Scalar.indexCast arg22_r0
  let c1536_1055_r0 : Index := 1536#32
  let c0_1056_r0 : Index := 0#32
  ![v2168_r0.toNat, 1536, 0]
def k0_off23 (k0_t1 : Fin k0_t1_loop.trips) : Fin 3 → Nat :=
  let c0_i32_773_r0 : BitVec 32 := 0#32
  let c1_i32_774_r0 : BitVec 32 := 1#32
  let arg22_r0 : BitVec 32 := Scf.iv c0_i32_773_r0 c1_i32_774_r0 k0_t1
  let v2217_r0 : Index := Scalar.indexCast arg22_r0
  let c1664_1072_r0 : Index := 1664#32
  let c0_1073_r0 : Index := 0#32
  ![v2217_r0.toNat, 1664, 0]
def k0_off24 (k0_t1 : Fin k0_t1_loop.trips) : Fin 3 → Nat :=
  let c0_i32_773_r0 : BitVec 32 := 0#32
  let c1_i32_774_r0 : BitVec 32 := 1#32
  let arg22_r0 : BitVec 32 := Scf.iv c0_i32_773_r0 c1_i32_774_r0 k0_t1
  let v2266_r0 : Index := Scalar.indexCast arg22_r0
  let c1792_1089_r0 : Index := 1792#32
  let c0_1090_r0 : Index := 0#32
  ![v2266_r0.toNat, 1792, 0]
def k0_off25 (k0_t1 : Fin k0_t1_loop.trips) : Fin 3 → Nat :=
  let c0_i32_773_r0 : BitVec 32 := 0#32
  let c1_i32_774_r0 : BitVec 32 := 1#32
  let arg22_r0 : BitVec 32 := Scf.iv c0_i32_773_r0 c1_i32_774_r0 k0_t1
  let v2315_r0 : Index := Scalar.indexCast arg22_r0
  let c1920_1106_r0 : Index := 1920#32
  let c0_1107_r0 : Index := 0#32
  ![v2315_r0.toNat, 1920, 0]
def k0_off26 (k0_t1 : Fin k0_t1_loop.trips) : Fin 3 → Nat :=
  let c0_i32_773_r0 : BitVec 32 := 0#32
  let c1_i32_774_r0 : BitVec 32 := 1#32
  let arg22_r0 : BitVec 32 := Scf.iv c0_i32_773_r0 c1_i32_774_r0 k0_t1
  let v2364_r0 : Index := Scalar.indexCast arg22_r0
  let c2048_1123_r0 : Index := 2048#32
  let c0_1124_r0 : Index := 0#32
  ![v2364_r0.toNat, 2048, 0]
def k0_off27 (k0_t1 : Fin k0_t1_loop.trips) : Fin 3 → Nat :=
  let c0_i32_773_r0 : BitVec 32 := 0#32
  let c1_i32_774_r0 : BitVec 32 := 1#32
  let arg22_r0 : BitVec 32 := Scf.iv c0_i32_773_r0 c1_i32_774_r0 k0_t1
  let v2413_r0 : Index := Scalar.indexCast arg22_r0
  let c2176_1140_r0 : Index := 2176#32
  let c0_1141_r0 : Index := 0#32
  ![v2413_r0.toNat, 2176, 0]
def k0_off28 (k0_t1 : Fin k0_t1_loop.trips) : Fin 3 → Nat :=
  let c0_i32_773_r0 : BitVec 32 := 0#32
  let c1_i32_774_r0 : BitVec 32 := 1#32
  let arg22_r0 : BitVec 32 := Scf.iv c0_i32_773_r0 c1_i32_774_r0 k0_t1
  let v2462_r0 : Index := Scalar.indexCast arg22_r0
  let c2304_1157_r0 : Index := 2304#32
  let c0_1158_r0 : Index := 0#32
  ![v2462_r0.toNat, 2304, 0]
def k0_off29 (k0_t1 : Fin k0_t1_loop.trips) : Fin 3 → Nat :=
  let c0_i32_773_r0 : BitVec 32 := 0#32
  let c1_i32_774_r0 : BitVec 32 := 1#32
  let arg22_r0 : BitVec 32 := Scf.iv c0_i32_773_r0 c1_i32_774_r0 k0_t1
  let v2511_r0 : Index := Scalar.indexCast arg22_r0
  let c2432_1174_r0 : Index := 2432#32
  let c0_1175_r0 : Index := 0#32
  ![v2511_r0.toNat, 2432, 0]
def k0_off30 (k0_t1 : Fin k0_t1_loop.trips) (c0_i32_1205_r0 : BitVec 32) : Fin 2 → Nat :=
  let c0_1206_r0 : Index := 0#32
  let c0_i32_773_r0 : BitVec 32 := 0#32
  let c1_i32_774_r0 : BitVec 32 := 1#32
  let arg22_r0 : BitVec 32 := Scf.iv c0_i32_773_r0 c1_i32_774_r0 k0_t1
  let c2_i32_1203_r0 : BitVec 32 := 2#32
  let v2615_r0 : BitVec 32 := Scalar.muli arg22_r0 c2_i32_1203_r0
  let c256_i32_1204_r0 : BitVec 32 := 256#32
  let v2616_r0 : BitVec 32 := Scalar.muli v2615_r0 c256_i32_1204_r0
  let v2617_r0 : BitVec 32 := Scalar.addi v2616_r0 c0_i32_1205_r0
  let v2620_r0 : Index := Scalar.indexCast v2617_r0
  ![0, v2620_r0.toNat]
abbrev stage0_0 : Fin 1 → Memref sig .tc .smem S1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
-- ==== KernelIdeal.lean ====
abbrev S20x2x256 : Shape := ⟨3, ![20, 2, 256]⟩
abbrev S20x1x256 : Shape := ⟨3, ![20, 1, 256]⟩
abbrev S20x2x128 : Shape := ⟨3, ![20, 2, 128]⟩
abbrev S20x1x128 : Shape := ⟨3, ![20, 1, 128]⟩
abbrev S1x1x256 : Shape := ⟨3, ![1, 1, 256]⟩
  | .local _ .vmem, ⟨6, _⟩ => ⟨S20x2x256, .bf16⟩
  | .local _ .vmem, ⟨7, _⟩ => ⟨S20x2x256, .bf16⟩
variable {F : FTy → Type} [FloatOps F]
-- ==== ReferenceIdeal.lean ====
abbrev S5x1x2560 : Shape := ⟨3, ![5, 1, 2560]⟩
abbrev S_ : Shape := ⟨0, ![]⟩
abbrev S2560x5120 : Shape := ⟨2, ![2560, 5120]⟩
abbrev S20x10240 : Shape := ⟨2, ![20, 10240]⟩
abbrev S5x2560 : Shape := ⟨2, ![5, 2560]⟩
abbrev S20x128x10240 : Shape := ⟨3, ![20, 128, 10240]⟩
abbrev S2560x10240 : Shape := ⟨2, ![2560, 10240]⟩
abbrev S5x5120 : Shape := ⟨2, ![5, 5120]⟩
abbrev S5x5120x1 : Shape := ⟨3, ![5, 5120, 1]⟩
abbrev S5x5120x2 : Shape := ⟨3, ![5, 5120, 2]⟩
abbrev S5x10240 : Shape := ⟨2, ![5, 10240]⟩

abbrev nBuf : Space → Nat
  | .hbm => 99
  | .vmem => 0
  | .smem => 0
  | _ => 0

abbrev bufTy : (tb : Table) → Fin (tcTables nBuf tb) → BufTy
  | .hbm, ⟨0, _⟩ => ⟨S5x1x2560, .bf16⟩
  | .hbm, ⟨1, _⟩ => ⟨S_, .f32⟩
  | .hbm, ⟨2, _⟩ => ⟨S2560x5120, .i8⟩
  | .hbm, ⟨3, _⟩ => ⟨S20x10240, .f32⟩
  | .hbm, ⟨4, _⟩ => ⟨S2560x5120, .i8⟩
  | .hbm, ⟨5, _⟩ => ⟨S20x10240, .f32⟩
  | .hbm, ⟨6, _⟩ => ⟨S5x2560, .bf16⟩
  | .hbm, ⟨7, _⟩ => ⟨S5x2560, .bf16⟩
  | .hbm, ⟨8, _⟩ => ⟨S5x2560, .f32⟩
  | .hbm, ⟨9, _⟩ => ⟨S5x2560, .f32⟩
  | .hbm, ⟨10, _⟩ => ⟨S5x2560, .i1⟩
  | .hbm, ⟨11, _⟩ => ⟨S_, .bf16⟩
  | .hbm, ⟨12, _⟩ => ⟨S5x2560, .bf16⟩
  | .hbm, ⟨13, _⟩ => ⟨S5x2560, .bf16⟩
  | .hbm, ⟨14, _⟩ => ⟨S2560x5120, .i32⟩
  | .hbm, ⟨15, _⟩ => ⟨S_, .i32⟩
  | .hbm, ⟨16, _⟩ => ⟨S2560x5120, .i32⟩
  | .hbm, ⟨17, _⟩ => ⟨S2560x5120, .i32⟩
  | .hbm, ⟨18, _⟩ => ⟨S_, .i32⟩
  | .hbm, ⟨19, _⟩ => ⟨S2560x5120, .i32⟩
  | .hbm, ⟨20, _⟩ => ⟨S2560x5120, .i1⟩
  | .hbm, ⟨21, _⟩ => ⟨S_, .i32⟩
  | .hbm, ⟨22, _⟩ => ⟨S2560x5120, .i32⟩
  | .hbm, ⟨23, _⟩ => ⟨S2560x5120, .i32⟩
  | .hbm, ⟨24, _⟩ => ⟨S2560x5120, .i32⟩
  | .hbm, ⟨25, _⟩ => ⟨S_, .i32⟩
  | .hbm, ⟨26, _⟩ => ⟨S2560x5120, .i32⟩
  | .hbm, ⟨27, _⟩ => ⟨S2560x5120, .i32⟩
  | .hbm, ⟨28, _⟩ => ⟨S_, .i32⟩
  | .hbm, ⟨29, _⟩ => ⟨S2560x5120, .i32⟩
  | .hbm, ⟨30, _⟩ => ⟨S2560x5120, .i1⟩
  | .hbm, ⟨31, _⟩ => ⟨S_, .i32⟩
  | .hbm, ⟨32, _⟩ => ⟨S2560x5120, .i32⟩
  | .hbm, ⟨33, _⟩ => ⟨S2560x5120, .i32⟩
  | .hbm, ⟨34, _⟩ => ⟨S2560x5120, .i32⟩
  | .hbm, ⟨35, _⟩ => ⟨S20x128x10240, .f32⟩
  | .hbm, ⟨36, _⟩ => ⟨S2560x10240, .f32⟩
  | .hbm, ⟨37, _⟩ => ⟨S2560x5120, .bf16⟩
  | .hbm, ⟨38, _⟩ => ⟨S2560x5120, .f32⟩
  | .hbm, ⟨39, _⟩ => ⟨S2560x5120, .bf16⟩
  | .hbm, ⟨40, _⟩ => ⟨S2560x5120, .bf16⟩
  | .hbm, ⟨41, _⟩ => ⟨S2560x5120, .bf16⟩
  | .hbm, ⟨42, _⟩ => ⟨S2560x5120, .f32⟩
  | .hbm, ⟨43, _⟩ => ⟨S2560x5120, .bf16⟩
  | .hbm, ⟨44, _⟩ => ⟨S2560x5120, .bf16⟩
  | .hbm, ⟨45, _⟩ => ⟨S5x5120, .f32⟩
  | .hbm, ⟨46, _⟩ => ⟨S5x5120, .f32⟩
  | .hbm, ⟨47, _⟩ => ⟨S5x5120x1, .f32⟩
  | .hbm, ⟨48, _⟩ => ⟨S5x5120x1, .f32⟩
  | .hbm, ⟨49, _⟩ => ⟨S5x5120x2, .f32⟩
  | .hbm, ⟨50, _⟩ => ⟨S5x10240, .f32⟩
  | .hbm, ⟨51, _⟩ => ⟨S2560x5120, .i32⟩
  | .hbm, ⟨52, _⟩ => ⟨S_, .i32⟩
  | .hbm, ⟨53, _⟩ => ⟨S2560x5120, .i32⟩
  | .hbm, ⟨54, _⟩ => ⟨S2560x5120, .i32⟩
  | .hbm, ⟨55, _⟩ => ⟨S_, .i32⟩
  | .hbm, ⟨56, _⟩ => ⟨S2560x5120, .i32⟩
  | .hbm, ⟨57, _⟩ => ⟨S2560x5120, .i1⟩
  | .hbm, ⟨58, _⟩ => ⟨S_, .i32⟩
  | .hbm, ⟨59, _⟩ => ⟨S2560x5120, .i32⟩
  | .hbm, ⟨60, _⟩ => ⟨S2560x5120, .i32⟩
  | .hbm, ⟨61, _⟩ => ⟨S2560x5120, .i32⟩
  | .hbm, ⟨62, _⟩ => ⟨S_, .i32⟩
  | .hbm, ⟨63, _⟩ => ⟨S2560x5120, .i32⟩
  | .hbm, ⟨64, _⟩ => ⟨S2560x5120, .i32⟩
  | .hbm, ⟨65, _⟩ => ⟨S_, .i32⟩
  | .hbm, ⟨66, _⟩ => ⟨S2560x5120, .i32⟩
  | .hbm, ⟨67, _⟩ => ⟨S2560x5120, .i1⟩
  | .hbm, ⟨68, _⟩ => ⟨S_, .i32⟩
  | .hbm, ⟨69, _⟩ => ⟨S2560x5120, .i32⟩
  | .hbm, ⟨70, _⟩ => ⟨S2560x5120, .i32⟩
  | .hbm, ⟨71, _⟩ => ⟨S2560x5120, .i32⟩
  | .hbm, ⟨72, _⟩ => ⟨S20x128x10240, .f32⟩
  | .hbm, ⟨73, _⟩ => ⟨S2560x10240, .f32⟩
  | .hbm, ⟨74, _⟩ => ⟨S2560x5120, .bf16⟩
  | .hbm, ⟨75, _⟩ => ⟨S2560x5120, .f32⟩
  | .hbm, ⟨76, _⟩ => ⟨S2560x5120, .bf16⟩
  | .hbm, ⟨77, _⟩ => ⟨S2560x5120, .bf16⟩
  | .hbm, ⟨78, _⟩ => ⟨S2560x5120, .bf16⟩
  | .hbm, ⟨79, _⟩ => ⟨S2560x5120, .f32⟩
  | .hbm, ⟨80, _⟩ => ⟨S2560x5120, .bf16⟩
  | .hbm, ⟨81, _⟩ => ⟨S2560x5120, .bf16⟩
  | .hbm, ⟨82, _⟩ => ⟨S5x5120, .f32⟩
  | .hbm, ⟨83, _⟩ => ⟨S5x5120, .f32⟩
  | .hbm, ⟨84, _⟩ => ⟨S5x5120x1, .f32⟩
  | .hbm, ⟨85, _⟩ => ⟨S5x5120x1, .f32⟩
  | .hbm, ⟨86, _⟩ => ⟨S5x5120x2, .f32⟩
  | .hbm, ⟨87, _⟩ => ⟨S5x10240, .f32⟩
  | .hbm, ⟨88, _⟩ => ⟨S5x10240, .f32⟩
  | .hbm, ⟨89, _⟩ => ⟨S5x10240, .f32⟩
  | .hbm, ⟨90, _⟩ => ⟨S_, .f32⟩
  | .hbm, ⟨91, _⟩ => ⟨S5x10240, .f32⟩
  | .hbm, ⟨92, _⟩ => ⟨S5x10240, .f32⟩
  | .hbm, ⟨93, _⟩ => ⟨S_, .f32⟩
  | .hbm, ⟨94, _⟩ => ⟨S5x10240, .f32⟩
  | .hbm, ⟨95, _⟩ => ⟨S5x10240, .f32⟩
  | .hbm, ⟨96, _⟩ => ⟨S5x10240, .f32⟩
  | .hbm, ⟨97, _⟩ => ⟨S5x10240, .f32⟩
  | .hbm, ⟨98, _⟩ => ⟨S5x10240, .bf16⟩
  | _, _ => ⟨S5x1x2560, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_call0_v0 : Ref sig .tc := ⟨.hbm, 12, rfl⟩
abbrev main_v5 : Ref sig .tc := ⟨.hbm, 13, rfl⟩
abbrev main_v6 : Ref sig .tc := ⟨.hbm, 14, rfl⟩
abbrev main_c : Ref sig .tc := ⟨.hbm, 15, rfl⟩
abbrev main_v7 : Ref sig .tc := ⟨.hbm, 16, rfl⟩
abbrev main_v8 : Ref sig .tc := ⟨.hbm, 17, rfl⟩
abbrev main_c_0 : Ref sig .tc := ⟨.hbm, 18, rfl⟩
abbrev main_v9 : Ref sig .tc := ⟨.hbm, 19, rfl⟩
abbrev main_v10 : Ref sig .tc := ⟨.hbm, 20, rfl⟩
abbrev main_c_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_c_2 : Ref sig .tc := ⟨.hbm, 25, rfl⟩
abbrev main_v14 : Ref sig .tc := ⟨.hbm, 26, rfl⟩
abbrev main_v15 : Ref sig .tc := ⟨.hbm, 27, rfl⟩
abbrev main_c_3 : Ref sig .tc := ⟨.hbm, 28, rfl⟩
abbrev main_v16 : Ref sig .tc := ⟨.hbm, 29, rfl⟩
abbrev main_v17 : Ref sig .tc := ⟨.hbm, 30, rfl⟩
abbrev main_c_4 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_c_5 : Ref sig .tc := ⟨.hbm, 52, rfl⟩
abbrev main_v38 : Ref sig .tc := ⟨.hbm, 53, rfl⟩
abbrev main_v39 : Ref sig .tc := ⟨.hbm, 54, rfl⟩
abbrev main_c_6 : Ref sig .tc := ⟨.hbm, 55, rfl⟩
abbrev main_v40 : Ref sig .tc := ⟨.hbm, 56, rfl⟩
abbrev main_v41 : Ref sig .tc := ⟨.hbm, 57, rfl⟩
abbrev main_c_7 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_c_8 : Ref sig .tc := ⟨.hbm, 62, rfl⟩
abbrev main_v45 : Ref sig .tc := ⟨.hbm, 63, rfl⟩
abbrev main_v46 : Ref sig .tc := ⟨.hbm, 64, rfl⟩
abbrev main_c_9 : Ref sig .tc := ⟨.hbm, 65, rfl⟩
abbrev main_v47 : Ref sig .tc := ⟨.hbm, 66, rfl⟩
abbrev main_v48 : Ref sig .tc := ⟨.hbm, 67, rfl⟩
abbrev main_c_10 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_call5_v0 : Ref sig .tc := ⟨.hbm, 88, rfl⟩
abbrev main_call5_v1 : Ref sig .tc := ⟨.hbm, 89, rfl⟩
abbrev main_call5_cst : Ref sig .tc := ⟨.hbm, 90, rfl⟩
abbrev main_call5_v2 : Ref sig .tc := ⟨.hbm, 91, rfl⟩
abbrev main_call5_v3 : Ref sig .tc := ⟨.hbm, 92, rfl⟩
abbrev main_call5_cst_0 : Ref sig .tc := ⟨.hbm, 93, rfl⟩
abbrev main_call5_v4 : Ref sig .tc := ⟨.hbm, 94, rfl⟩
abbrev main_call5_v5 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩

abbrev nD : Nat := 1
abbrev τ : Topo := Topo.v7x

variable {F : FTy → Type} [FloatOps F]
-- ==== Proof.Bits.Trip.lean ====
module

public import proofs.«01_k».proof.Proof.Gen.Kernel.Frame
public import proofs.«01_k».proof.Proof.Gen.Kernel.Skeleton
public import Idealize.ShloMosaic.Lib.Transfers
public import Idealize.ShloMosaic.Lib.Ring
public import Idealize.ShloMosaic.Lib.Mxu.Walk
public import Idealize.ShloMosaic.Lib.Tactic

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [BitOps F]

local notation "𝕄" => MT nD τ sig Unit (Elt F) ℕ (Pipeline.UD sig nD τ) ℕ

abbrev xH : Memref sig .tc .hbm S5x2560 .bf16 := Memref.whole main_v0
abbrev gcH : Memref sig .tc .hbm S2560x5120 .i8 := Memref.whole main_arg2
abbrev gsH : Memref sig .tc .hbm S20x10240 .f32 := Memref.whole main_arg3
abbrev ucH : Memref sig .tc .hbm S2560x5120 .i8 := Memref.whole main_arg4
abbrev usH : Memref sig .tc .hbm S20x10240 .f32 := Memref.whole main_arg5
abbrev yH : Memref sig .tc .hbm S5x10240 .bf16 := Memref.whole main_v2
abbrev xV : Memref sig .tc .vmem S5x2560 .bf16 := Memref.whole cc0_scratch0
abbrev gcV : Memref sig .tc .vmem S20x2560x256 .i8 := Memref.whole cc0_scratch1
abbrev gsV : Memref sig .tc .vmem S20x20x512 .f32 := Memref.whole cc0_scratch2
abbrev ucV : Memref sig .tc .vmem S20x2560x256 .i8 := Memref.whole cc0_scratch3
abbrev usV : Memref sig .tc .vmem S20x20x512 .f32 := Memref.whole cc0_scratch4
abbrev lhsV : Memref sig .tc .vmem S16x5120 .bf16 := Memref.whole cc0_scratch5
abbrev gwV : Memref sig .tc .vmem S20x256 .i32 := Memref.whole cc0_scratch6
abbrev uwV : Memref sig .tc .vmem S20x256 .i32 := Memref.whole cc0_scratch7
abbrev yV : Memref sig .tc .vmem S5x10240 .bf16 := Memref.whole cc0_scratch8

/-- Memref `M`'s buffer on core `c`. -/
abbrev Bf (c : Dev nD) {sp : Space} {S : Shape} {e : EltTy} (M : Memref sig .tc sp S e) : Type := Buf (Elt F) (M.view.loc (c : Thread nD τ))

/-- A column block of a code array and its slot; a column block of a scale array and its slot. -/
abbrev codeSlot (M : Memref sig .tc .vmem S20x2560x256 .i8) (k : Fin k0_t1_loop.trips) : Memref sig .tc .vmem S2560x256 .i8 :=
  (M.slice (Rect.unit (s := S20x2560x256) (k0_off4 k) S1x2560x256.size (k0_off4_inb k)) (fun _ => rfl)).squeeze S2560x256 squeezes_S1x2560x256_S2560x256
abbrev codeCols (M : Memref sig .tc .hbm S2560x5120 .i8) (k : Fin k0_t1_loop.trips) : Memref sig .tc .hbm S2560x256 .i8 :=
  M.slice (Rect.unit (s := S2560x5120) (k0_off5 k) S2560x256.size (k0_off5_inb k)) (fun _ => rfl)
abbrev scaleSlot (M : Memref sig .tc .vmem S20x20x512 .f32) (k : Fin k0_t1_loop.trips) : Memref sig .tc .vmem S20x512 .f32 :=
  (M.slice (Rect.unit (s := S20x20x512) (k0_off2 k) S1x20x512.size (k0_off2_inb k)) (fun _ => rfl)).squeeze S20x512 squeezes_S1x20x512_S20x512
abbrev scaleCols (M : Memref sig .tc .hbm S20x10240 .f32) (k : Fin k0_t1_loop.trips) : Memref sig .tc .hbm S20x512 .f32 :=
  M.slice (Rect.unit (s := S20x10240) (k0_off3 k) S20x512.size (k0_off3_inb k)) (fun _ => rfl)
abbrev cell (a : DmaSems sig S20) (k : Fin k0_t1_loop.trips) : DmaSem sig :=
  ((a.slice (Rect.unit (s := S20) (k0_off1 k) S1.size (k0_off1_inb k))).squeeze S_ squeezes_S1_S_).sem

abbrev EC : UEmb Counters 𝕄 := countersEmb (U := Pipeline.UD sig nD τ)

/-- One trip, over the four pieces it reads. -/
def tripRun (c : Dev nD) (k : Fin k0_t1_loop.trips) (s : Mxu F) (hs : ∀ q r, s.reg q r = none)
    (fl : Bf (F := F) c lhsV) (fgc : Bf (F := F) c gcV) (fuc : Bf (F := F) c ucV) (fgs : Bf (F := F) c gsV) (fus : Bf (F := F) c usV) :
    { R : Mxu F × List (View.Piece (Elt F) S5x10240 .bf16) //
      ∀ (arg1 : Memref sig .tc .smem S1 .f32) (harg1 : arg1.IsWhole)
        (hgc : Bf (F := F) c gcH) (huc : Bf (F := F) c ucH) (hgs : Bf (F := F) c gsH) (hus : Bf (F := F) c usH)
        (x1 : Mxu F) (x2 : IVec S8x128 32) (x3 : IVec S8x128 1) (x4 : FVec F S8x128 .f32) (x5 : IVec S8x128 32)
        (fy : Bf (F := F) c yV) (fgw : Bf (F := F) c gwV) (fuw : Bf (F := F) c uwV) (W : Waits sig Unit) (K : Mxu F → sProp 𝕄),
        iprop((lhsV.view.loc (c : Thread nD τ) ↦{fullShare} fl)
          ∗ (gwV.view.loc (c : Thread nD τ) ↦{fullShare} fgw) ∗ (uwV.view.loc (c : Thread nD τ) ↦{fullShare} fuw)
          ∗ (yV.view.loc (c : Thread nD τ) ↦{fullShare} fy)
          ∗ Transfers.Flight EC (c : Thread nD τ) (.dma (cell cc0_scratch10 k)) () (scaleSlot gsV k).view.dmaCredit iprop(((scaleSlot gsV k).view.loc (c : Thread nD τ) ↦[(scaleSlot gsV k).view.set]{fullShare} fgs) ∗ ((scaleCols gsH k).view.loc (c : Thread nD τ) ↦[(scaleCols gsH k).view.set]{fullShare} hgs))
          ∗ Transfers.Flight EC (c : Thread nD τ) (.dma (cell cc0_scratch11 k)) () (scaleSlot usV k).view.dmaCredit iprop(((scaleSlot usV k).view.loc (c : Thread nD τ) ↦[(scaleSlot usV k).view.set]{fullShare} fus) ∗ ((scaleCols usH k).view.loc (c : Thread nD τ) ↦[(scaleCols usH k).view.set]{fullShare} hus))
          ∗ Transfers.Flight EC (c : Thread nD τ) (.dma (cell cc0_scratch12 k)) () (codeSlot gcV k).view.dmaCredit iprop(((codeSlot gcV k).view.loc (c : Thread nD τ) ↦[(codeSlot gcV k).view.set]{fullShare} fgc) ∗ ((codeCols gcH k).view.loc (c : Thread nD τ) ↦[(codeCols gcH k).view.set]{fullShare} hgc))
          ∗ Transfers.Flight EC (c : Thread nD τ) (.dma (cell cc0_scratch13 k)) () (codeSlot ucV k).view.dmaCredit iprop(((codeSlot ucV k).view.loc (c : Thread nD τ) ↦[(codeSlot ucV k).view.set]{fullShare} fuc) ∗ ((codeCols ucH k).view.loc (c : Thread nD τ) ↦[(codeCols ucH k).view.set]{fullShare} huc))
          ∗ owes (c : Thread nD τ) 0 W
          ∗ (iprop((lhsV.view.loc (c : Thread nD τ) ↦{fullShare} fl)
            ∗ (∃ f, gwV.view.loc (c : Thread nD τ) ↦{fullShare} f) ∗ (∃ f, uwV.view.loc (c : Thread nD τ) ↦{fullShare} f)
            ∗ (yV.view.loc (c : Thread nD τ) ↦{fullShare} yV.view.writes (Elt F) fy R.2)
            ∗ ((scaleSlot gsV k).view.loc (c : Thread nD τ) ↦[(scaleSlot gsV k).view.set]{fullShare} fgs) ∗ ((scaleCols gsH k).view.loc (c : Thread nD τ) ↦[(scaleCols gsH k).view.set]{fullShare} hgs)
            ∗ semVal ((c : Thread nD τ), SemLoc.dma (cell cc0_scratch10 k)) 0
            ∗ ((scaleSlot usV k).view.loc (c : Thread nD τ) ↦[(scaleSlot usV k).view.set]{fullShare} fus) ∗ ((scaleCols usH k).view.loc (c : Thread nD τ) ↦[(scaleCols usH k).view.set]{fullShare} hus)
            ∗ semVal ((c : Thread nD τ), SemLoc.dma (cell cc0_scratch11 k)) 0
            ∗ ((codeSlot gcV k).view.loc (c : Thread nD τ) ↦[(codeSlot gcV k).view.set]{fullShare} fgc) ∗ ((codeCols gcH k).view.loc (c : Thread nD τ) ↦[(codeCols gcH k).view.set]{fullShare} hgc)
            ∗ semVal ((c : Thread nD τ), SemLoc.dma (cell cc0_scratch12 k)) 0
            ∗ ((codeSlot ucV k).view.loc (c : Thread nD τ) ↦[(codeSlot ucV k).view.set]{fullShare} fuc) ∗ ((codeCols ucH k).view.loc (c : Thread nD τ) ↦[(codeCols ucH k).view.set]{fullShare} huc)
            ∗ semVal ((c : Thread nD τ), SemLoc.dma (cell cc0_scratch13 k)) 0
            ∗ (∃ W', owes (c : Thread nD τ) 0 W')) -∗ K R.1))
          ⊢ wp frame (wpE (defs₀ (F := F)) Variants.none c none) Set.univ
              (k0_t1_body xH (Memref.isWhole_whole _) arg1 harg1 gcH (Memref.isWhole_whole _) gsH (Memref.isWhole_whole _) ucH (Memref.isWhole_whole _) usH (Memref.isWhole_whole _) yH (Memref.isWhole_whole _) xV (Memref.isWhole_whole _) gcV (Memref.isWhole_whole _) gsV (Memref.isWhole_whole _) ucV (Memref.isWhole_whole _) usV (Memref.isWhole_whole _) lhsV (Memref.isWhole_whole _) gwV (Memref.isWhole_whole _) uwV (Memref.isWhole_whole _) yV (Memref.isWhole_whole _) cc0_scratch9 cc0_scratch10 cc0_scratch11 cc0_scratch12 cc0_scratch13 cc0_scratch14 x1 x2 x3 x4 x5 k s) K } := by
  refine ⟨⟨?_, ?_⟩, fun arg1 harg1 hgc huc hgs hus x1 x2 x3 x4 x5 fy fgw fuw W K => ?run⟩
  case run =>
    unfold k0_t1_body
    iintro ⟨Hl, Hgw, Huw, Hy, F1, F2, F3, F4, HW, Hk⟩
    sl_exec_parts (disch := first | exact Mxu.pushOk_of_none _ _ _ _ (hs _ _) | (mxu_pushok_peel <;> exact Mxu.pushOk_of_none _ _ _ _ (hs _ _)))
    sl_step
    iapply Hk
    isplitl [Hl]; · iexact Hl
    isplitl [Hgw]; · iexists _; iexact Hgw
    isplitl [Huw]; · iexists _; iexact Huw
    isplitl [Hy]; · iexact Hy
    isplitl [F1_dst]; · iexact F1_dst
    isplitl [F1_src]; · iexact F1_src
    isplitl [F1]; · iexact F1
    isplitl [F2_dst]; · iexact F2_dst
    isplitl [F2_src]; · iexact F2_src
    isplitl [F2]; · iexact F2
    isplitl [F3_dst]; · iexact F3_dst
    isplitl [F3_src]; · iexact F3_src
    isplitl [F3]; · iexact F3
    isplitl [F4_dst]; · iexact F4_dst
    isplitl [F4_src]; · iexact F4_src
    isplitl [F4]; · iexact F4
    iexists _; iexact HW

/-- After a trip every register is empty and no accumulator row is live, as before it. -/
theorem tripState (c : Dev nD) (k : Fin k0_t1_loop.trips) (s : Mxu F) (hs : ∀ q r, s.reg q r = none) (hl : ∀ q R, ¬ s.live q R = true)
    (fl : Bf (F := F) c lhsV) (fgc : Bf (F := F) c gcV) (fuc : Bf (F := F) c ucV) (fgs : Bf (F := F) c gsV) (fus : Bf (F := F) c usV) :
    (∀ q r, (tripRun c k s hs fl fgc fuc fgs fus).1.1.reg q r = none) ∧ (∀ q R, ¬ (tripRun c k s hs fl fgc fuc fgs fus).1.1.live q R = true) := by
  have h0 : ∀ R, s.live 0 R = true → R.val < 0 := fun R h => absurd h (hl 0 R)
  have h1 : ∀ R, s.live 1 R = true → R.val < 0 := fun R h => absurd h (hl 1 R)
  unfold tripRun
  dsimp only
  mxu_walk h0 as w0
  mxu_walk h1 as w1
  refine ⟨fun q r => ?_, fun q R => ?_⟩
  · match q, r with
    | 0, 0 => exact w0.reg0_empty rfl
    | 0, 1 => exact w0.reg1_empty rfl
    | 1, 0 => exact w1.reg0_empty rfl
    | 1, 1 => exact w1.reg1_empty rfl
  · match q with
    | 0 => exact w0.none_live rfl R
    | 1 => exact w1.none_live rfl R

end Cert.Kernel.Hand

end
-- ==== Proof.Bits.Streams.lean ====
module

public import proofs.«01_k».proof.Proof.Gen.Kernel.Frame
public import proofs.«01_k».proof.Proof.Gen.Kernel.Skeleton
public import proofs.«01_k».proof.Proof.Bits.Trip
public import Idealize.ShloMosaic.Lib.Transfers
public import Idealize.ShloMosaic.Lib.Ring
public import Idealize.ShloMosaic.Lib.Mxu.Walk
public import Idealize.ShloMosaic.Lib.Tactic

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [BitOps F]

local notation "𝕄" => MT nD τ sig Unit (Elt F) ℕ (Pipeline.UD sig nD τ) ℕ

theorem pure_sep {φ : Prop} {P Q : sProp 𝕄} (h : φ → P ⊢ Q) : iprop(⌜φ⌝ ∗ P) ⊢ Q := by
  iintro ⟨%hφ, H⟩; iapply (h hφ); iexact H

/-- A view's elements after writing a payload whole are those of any contents read as that payload. -/
theorem landed_at {sp : Space} {S : Shape} {e : EltTy} (v : View sig .tc sp S e) {f G : v.ty.Contents (Elt F)} {p : S.Idx → Elt F e}
    (h : v.read (Elt F) G = p) {i : v.ty.Idx} (hi : i ∈ v.set) : v.write (Elt F) f p Finset.univ i = G i := by
  subst h
  rw [View.write_read_eq_piecewise]
  exact Finset.piecewise_eq_of_mem _ _ _ (by simpa [View.setOn, View.set] using hi)

/-! ### The copies of the scale blocks -/

section Scale

variable (c : Dev nD) (V : Memref sig .tc .vmem S20x20x512 .f32) (H : Memref sig .tc .hbm S20x10240 .f32) (A : DmaSems sig S20)

/-- Block `k`'s copy not yet started: its semaphore at zero, its slot and its columns. -/
def scalePend (h : Bf (F := F) c H) (k : Fin k0_t1_loop.trips) : sProp 𝕄 :=
  iprop(semVal ((c : Thread nD τ), SemLoc.dma (cell A k)) 0
    ∗ (∃ f, (scaleSlot V k).view.loc (c : Thread nD τ) ↦[(scaleSlot V k).view.set]{fullShare} f)
    ∗ ((scaleCols H k).view.loc (c : Thread nD τ) ↦[(scaleCols H k).view.set]{fullShare} h))

/-- Block `k`'s copy in flight, to deliver the slot at `G`'s contents and the columns back. -/
abbrev scaleFl (G : Bf (F := F) c V) (h : Bf (F := F) c H) (k : Fin k0_t1_loop.trips) : sProp 𝕄 :=
  Transfers.Flight EC (c : Thread nD τ) (.dma (cell A k)) () (scaleSlot V k).view.dmaCredit
    iprop(((scaleSlot V k).view.loc (c : Thread nD τ) ↦[(scaleSlot V k).view.set]{fullShare} G)
      ∗ ((scaleCols H k).view.loc (c : Thread nD τ) ↦[(scaleCols H k).view.set]{fullShare} h))

/-- Block `k`'s copy waited for. -/
def scaleDone (G : Bf (F := F) c V) (h : Bf (F := F) c H) (k : Fin k0_t1_loop.trips) : sProp 𝕄 :=
  iprop(((scaleSlot V k).view.loc (c : Thread nD τ) ↦[(scaleSlot V k).view.set]{fullShare} G)
    ∗ ((scaleCols H k).view.loc (c : Thread nD τ) ↦[(scaleCols H k).view.set]{fullShare} h)
    ∗ semVal ((c : Thread nD τ), SemLoc.dma (cell A k)) 0)

/-- The first `n` copies in flight, the others not yet started. -/
def scaleStarts (G : Bf (F := F) c V) (h : Bf (F := F) c H) (n : ℕ) : sProp 𝕄 :=
  iprop(bigSep (Ring.rangeSet k0_t1_loop.trips n 20) (scalePend c V H A h) ∗ bigSep (Ring.rangeSet k0_t1_loop.trips 0 n) (scaleFl c V H A G h))

/-- `G` holds every block's columns in its slot. -/
def scaleLanded (G : Bf (F := F) c V) (h : Bf (F := F) c H) : Prop :=
  ∀ k, (scaleSlot V k).view.read (Elt F) G = (scaleCols H k).view.read (Elt F) h

theorem scaleFl_of_pend {G : Bf (F := F) c V} {h : Bf (F := F) c H} (hG : scaleLanded c V H G h) (k : Fin k0_t1_loop.trips)
    {β : Type} {Q : β → sProp 𝕄} {κ : PUnit → Prog (TpuEff nD τ sig (Elt F) Λ₀ .tc) β}
    {hsrc} {hdst} {hsem} :
    iprop(scalePend c V H A h k ∗ (scaleFl c V H A G h k -∗ wp frame (wpE (defs₀ (F := F)) Variants.none (c : Thread nD τ) none) Set.univ (κ ⟨⟩) Q))
      ⊢ wp frame (wpE (defs₀ (F := F)) Variants.none (c : Thread nD τ) none) Set.univ
          (.op (.enqueueDma (scaleCols H k) (.here (scaleSlot V k)) (.dma (cell A k)) hsrc hdst hsem) κ) Q := by
  unfold scalePend
  iintro ⟨⟨Hs, ⟨%f, Hd⟩, Hc⟩, Hk⟩
  iapply (Transfers.wp_dmaLocal EC Variants.none (c : Thread nD τ) none () (scaleSlot V k).view.dmaCredit rfl (by show 0 < _; simp [View.dmaCredit]; decide) (Finset.Subset.refl _)) $$ [Hs Hd Hc]
  · isplitl [Hc]; · iexact Hc
    isplitl [Hd]; · iexact Hd
    iexact Hs
  iintro HF
  iapply Hk
  iapply (Transfers.Flight_mono EC (c : Thread nD τ) ?_) $$ HF
  iintro ⟨Hd, Hc⟩
  isplitl [Hd]
  · iapply (Entails.of_eq (pointsTo_congr fun i hi => landed_at _ (hG k) hi)) $$ Hd
  iexact Hc

/-- One start: offsets in literals. -/
theorem scale_start {G : Bf (F := F) c V} {h : Bf (F := F) c H} (hG : scaleLanded c V H G h) {n j : ℕ}
    {β : Type} {Q : β → sProp 𝕄} {κ : PUnit → Prog (TpuEff nD τ sig (Elt F) Λ₀ .tc) β}
    {b1} {b2} {b3} {p2} {p3} {q1} {q2}
    {hsrc} {hdst} {hsem} :
    iprop(⌜n < k0_t1_loop.trips ∧ j = 512 * n⌝ ∗ scaleStarts c V H A G h n ∗ (scaleStarts c V H A G h (n + 1) -∗ wp frame (wpE (defs₀ (F := F)) Variants.none (c : Thread nD τ) none) Set.univ (κ ⟨⟩) Q))
      ⊢ wp frame (wpE (defs₀ (F := F)) Variants.none (c : Thread nD τ) none) Set.univ
          (.op (.enqueueDma (H.slice (Rect.unit (s := S20x10240) ![0, j] S20x512.size b3) p3)
            (.here ((V.slice (Rect.unit (s := S20x20x512) ![n, 0, 0] S1x20x512.size b2) p2).squeeze S20x512 q2))
            (.dma ((A.slice (Rect.unit (s := S20) ![n] S1.size b1)).squeeze S_ q1).sem) hsrc hdst hsem) κ) Q := by
  refine pure_sep fun ⟨hn, hj⟩ => ?_
  subst hj
  have e1 : (![n] : Fin 1 → ℕ) = k0_off1 ⟨n, hn⟩ := (k0_off1_eq ⟨n, hn⟩).symm
  have e2 : (![n, 0, 0] : Fin 3 → ℕ) = k0_off2 ⟨n, hn⟩ := (k0_off2_eq ⟨n, hn⟩).symm
  have e3 : (![0, 512 * n] : Fin 2 → ℕ) = k0_off3 ⟨n, hn⟩ := (k0_off3_eq ⟨n, hn⟩).symm
  revert b1 b2 b3 p2 p3 hsrc hdst hsem
  rw [e1, e2, e3]
  intros
  unfold scaleStarts
  rw [Ring.bigSep_rangeSet_head (lo := n) (hi := 20) (show n < 20 from hn) hn, Ring.bigSep_rangeSet_last (lo := 0) (hi := n + 1) (Nat.succ_pos n) hn]
  iintro ⟨⟨⟨Hp, Hr⟩, Hf⟩, Hk⟩
  iapply (scaleFl_of_pend c V H A hG ⟨n, hn⟩) $$ [Hp Hr Hf Hk]
  isplitl [Hp]; · iexact Hp
  iintro HF
  iapply Hk
  isplitl [Hr]; · iexact Hr
  isplitl [HF]; · iexact HF
  iexact Hf

end Scale

/-! ### The copies of the code blocks -/

section Code

variable (c : Dev nD) (V : Memref sig .tc .vmem S20x2560x256 .i8) (H : Memref sig .tc .hbm S2560x5120 .i8) (A : DmaSems sig S20)

/-- Block `k`'s copy not yet started: its semaphore at zero, its slot and its columns. -/
def codePend (h : Bf (F := F) c H) (k : Fin k0_t1_loop.trips) : sProp 𝕄 :=
  iprop(semVal ((c : Thread nD τ), SemLoc.dma (cell A k)) 0
    ∗ (∃ f, (codeSlot V k).view.loc (c : Thread nD τ) ↦[(codeSlot V k).view.set]{fullShare} f)
    ∗ ((codeCols H k).view.loc (c : Thread nD τ) ↦[(codeCols H k).view.set]{fullShare} h))

/-- Block `k`'s copy in flight, to deliver the slot at `G`'s contents and the columns back. -/
abbrev codeFl (G : Bf (F := F) c V) (h : Bf (F := F) c H) (k : Fin k0_t1_loop.trips) : sProp 𝕄 :=
  Transfers.Flight EC (c : Thread nD τ) (.dma (cell A k)) () (codeSlot V k).view.dmaCredit
    iprop(((codeSlot V k).view.loc (c : Thread nD τ) ↦[(codeSlot V k).view.set]{fullShare} G)
      ∗ ((codeCols H k).view.loc (c : Thread nD τ) ↦[(codeCols H k).view.set]{fullShare} h))

/-- Block `k`'s copy waited for. -/
def codeDone (G : Bf (F := F) c V) (h : Bf (F := F) c H) (k : Fin k0_t1_loop.trips) : sProp 𝕄 :=
  iprop(((codeSlot V k).view.loc (c : Thread nD τ) ↦[(codeSlot V k).view.set]{fullShare} G)
    ∗ ((codeCols H k).view.loc (c : Thread nD τ) ↦[(codeCols H k).view.set]{fullShare} h)
    ∗ semVal ((c : Thread nD τ), SemLoc.dma (cell A k)) 0)

/-- The first `n` copies in flight, the others not yet started. -/
def codeStarts (G : Bf (F := F) c V) (h : Bf (F := F) c H) (n : ℕ) : sProp 𝕄 :=
  iprop(bigSep (Ring.rangeSet k0_t1_loop.trips n 20) (codePend c V H A h) ∗ bigSep (Ring.rangeSet k0_t1_loop.trips 0 n) (codeFl c V H A G h))

/-- `G` holds every block's columns in its slot. -/
def codeLanded (G : Bf (F := F) c V) (h : Bf (F := F) c H) : Prop :=
  ∀ k, (codeSlot V k).view.read (Elt F) G = (codeCols H k).view.read (Elt F) h

theorem codeFl_of_pend {G : Bf (F := F) c V} {h : Bf (F := F) c H} (hG : codeLanded c V H G h) (k : Fin k0_t1_loop.trips)
    {β : Type} {Q : β → sProp 𝕄} {κ : PUnit → Prog (TpuEff nD τ sig (Elt F) Λ₀ .tc) β}
    {hsrc} {hdst} {hsem} :
    iprop(codePend c V H A h k ∗ (codeFl c V H A G h k -∗ wp frame (wpE (defs₀ (F := F)) Variants.none (c : Thread nD τ) none) Set.univ (κ ⟨⟩) Q))
      ⊢ wp frame (wpE (defs₀ (F := F)) Variants.none (c : Thread nD τ) none) Set.univ
          (.op (.enqueueDma (codeCols H k) (.here (codeSlot V k)) (.dma (cell A k)) hsrc hdst hsem) κ) Q := by
  unfold codePend
  iintro ⟨⟨Hs, ⟨%f, Hd⟩, Hc⟩, Hk⟩
  iapply (Transfers.wp_dmaLocal EC Variants.none (c : Thread nD τ) none () (codeSlot V k).view.dmaCredit rfl (by show 0 < _; simp [View.dmaCredit]; decide) (Finset.Subset.refl _)) $$ [Hs Hd Hc]
  · isplitl [Hc]; · iexact Hc
    isplitl [Hd]; · iexact Hd
    iexact Hs
  iintro HF
  iapply Hk
  iapply (Transfers.Flight_mono EC (c : Thread nD τ) ?_) $$ HF
  iintro ⟨Hd, Hc⟩
  isplitl [Hd]
  · iapply (Entails.of_eq (pointsTo_congr fun i hi => landed_at _ (hG k) hi)) $$ Hd
  iexact Hc

/-- One start: offsets in literals. -/
theorem code_start {G : Bf (F := F) c V} {h : Bf (F := F) c H} (hG : codeLanded c V H G h) {n j : ℕ}
    {β : Type} {Q : β → sProp 𝕄} {κ : PUnit → Prog (TpuEff nD τ sig (Elt F) Λ₀ .tc) β}
    {b1} {b2} {b3} {p2} {p3} {q1} {q2}
    {hsrc} {hdst} {hsem} :
    iprop(⌜n < k0_t1_loop.trips ∧ j = 256 * n⌝ ∗ codeStarts c V H A G h n ∗ (codeStarts c V H A G h (n + 1) -∗ wp frame (wpE (defs₀ (F := F)) Variants.none (c : Thread nD τ) none) Set.univ (κ ⟨⟩) Q))
      ⊢ wp frame (wpE (defs₀ (F := F)) Variants.none (c : Thread nD τ) none) Set.univ
          (.op (.enqueueDma (H.slice (Rect.unit (s := S2560x5120) ![0, j] S2560x256.size b3) p3)
            (.here ((V.slice (Rect.unit (s := S20x2560x256) ![n, 0, 0] S1x2560x256.size b2) p2).squeeze S2560x256 q2))
            (.dma ((A.slice (Rect.unit (s := S20) ![n] S1.size b1)).squeeze S_ q1).sem) hsrc hdst hsem) κ) Q := by
  refine pure_sep fun ⟨hn, hj⟩ => ?_
  subst hj
  have e1 : (![n] : Fin 1 → ℕ) = k0_off1 ⟨n, hn⟩ := (k0_off1_eq ⟨n, hn⟩).symm
  have e2 : (![n, 0, 0] : Fin 3 → ℕ) = k0_off4 ⟨n, hn⟩ := (k0_off4_eq ⟨n, hn⟩).symm
  have e3 : (![0, 256 * n] : Fin 2 → ℕ) = k0_off5 ⟨n, hn⟩ := (k0_off5_eq ⟨n, hn⟩).symm
  revert b1 b2 b3 p2 p3 hsrc hdst hsem
  rw [e1, e2, e3]
  intros
  unfold codeStarts
  rw [Ring.bigSep_rangeSet_head (lo := n) (hi := 20) (show n < 20 from hn) hn, Ring.bigSep_rangeSet_last (lo := 0) (hi := n + 1) (Nat.succ_pos n) hn]
  iintro ⟨⟨⟨Hp, Hr⟩, Hf⟩, Hk⟩
  iapply (codeFl_of_pend c V H A hG ⟨n, hn⟩) $$ [Hp Hr Hf Hk]
  isplitl [Hp]; · iexact Hp
  iintro HF
  iapply Hk
  isplitl [Hr]; · iexact Hr
  isplitl [HF]; · iexact HF
  iexact Hf

end Code

end Cert.Kernel.Hand

end
-- ==== Proof.Bits.Body.lean ====
module

public import proofs.«01_k».proof.Proof.Gen.Kernel.Frame
public import proofs.«01_k».proof.Proof.Gen.Kernel.Skeleton
public import proofs.«01_k».proof.Proof.Bits.Streams
public import Idealize.ShloMosaic.Lib.Transfers
public import Idealize.ShloMosaic.Lib.Ring
public import Idealize.ShloMosaic.Lib.Mxu.Walk
public import Idealize.ShloMosaic.Lib.Tactic

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [BitOps F]

local notation "𝕄" => MT nD τ sig Unit (Elt F) ℕ (Pipeline.UD sig nD τ) ℕ

section State

variable (c : Dev nD) (fl : Bf (F := F) c lhsV) (fgc : Bf (F := F) c gcV) (fuc : Bf (F := F) c ucV) (fgs : Bf (F := F) c gsV) (fus : Bf (F := F) c usV)

/-- The matrix unit's state before trip `n`. -/
def st : ℕ → { s : Mxu F // (∀ q r, s.reg q r = none) ∧ ∀ q R, ¬ s.live q R = true }
  | 0 => ⟨Mxu.init, fun _ _ => rfl, fun _ _ => by simp [Mxu.init]⟩
  | n + 1 => if h : n < k0_t1_loop.trips then
      ⟨(tripRun c ⟨n, h⟩ (st n).1 (st n).2.1 fl fgc fuc fgs fus).1.1, tripState c ⟨n, h⟩ (st n).1 (st n).2.1 (st n).2.2 fl fgc fuc fgs fus⟩
    else st n

/-- The result's buffer before trip `n`. -/
def yAt (y0 : Bf (F := F) c yV) : ℕ → Bf (F := F) c yV
  | 0 => y0
  | n + 1 => if h : n < k0_t1_loop.trips then
      yV.view.writes (Elt F) (yAt y0 n) (tripRun c ⟨n, h⟩ (st c fl fgc fuc fgs fus n).1 (st c fl fgc fuc fgs fus n).2.1 fl fgc fuc fgs fus).1.2
    else yAt y0 n

/-- What the loop keeps. -/
def loopInv (hgc : Bf (F := F) c gcH) (hgs : Bf (F := F) c gsH) (huc : Bf (F := F) c ucH) (hus : Bf (F := F) c usH) (y0 : Bf (F := F) c yV)
    (n : ℕ) (s : Mxu F) : sProp 𝕄 :=
  iprop(⌜s = (st c fl fgc fuc fgs fus n).1⌝
    ∗ (lhsV.view.loc (c : Thread nD τ) ↦{fullShare} fl)
    ∗ (∃ f, gwV.view.loc (c : Thread nD τ) ↦{fullShare} f) ∗ (∃ f, uwV.view.loc (c : Thread nD τ) ↦{fullShare} f)
    ∗ (yV.view.loc (c : Thread nD τ) ↦{fullShare} yAt c fl fgc fuc fgs fus y0 n)
    ∗ (bigSep (Ring.rangeSet k0_t1_loop.trips n 20) (scaleFl c gsV gsH cc0_scratch10 fgs hgs) ∗ bigSep (Ring.rangeSet k0_t1_loop.trips 0 n) (scaleDone c gsV gsH cc0_scratch10 fgs hgs))
    ∗ (bigSep (Ring.rangeSet k0_t1_loop.trips n 20) (scaleFl c usV usH cc0_scratch11 fus hus) ∗ bigSep (Ring.rangeSet k0_t1_loop.trips 0 n) (scaleDone c usV usH cc0_scratch11 fus hus))
    ∗ (bigSep (Ring.rangeSet k0_t1_loop.trips n 20) (codeFl c gcV gcH cc0_scratch12 fgc hgc) ∗ bigSep (Ring.rangeSet k0_t1_loop.trips 0 n) (codeDone c gcV gcH cc0_scratch12 fgc hgc))
    ∗ (bigSep (Ring.rangeSet k0_t1_loop.trips n 20) (codeFl c ucV ucH cc0_scratch13 fuc huc) ∗ bigSep (Ring.rangeSet k0_t1_loop.trips 0 n) (codeDone c ucV ucH cc0_scratch13 fuc huc))
    ∗ ∃ W, owes (c : Thread nD τ) 0 W)

/-- One trip takes the loop's invariant to the next. -/
theorem trip_sound (arg1 : Memref sig .tc .smem S1 .f32) (harg1 : arg1.IsWhole)
    (hgc : Bf (F := F) c gcH) (hgs : Bf (F := F) c gsH) (huc : Bf (F := F) c ucH) (hus : Bf (F := F) c usH) (y0 : Bf (F := F) c yV)
    (x1 : Mxu F) (x2 : IVec S8x128 32) (x3 : IVec S8x128 1) (x4 : FVec F S8x128 .f32) (x5 : IVec S8x128 32)
    (k : Fin k0_t1_loop.trips) (s : Mxu F) :
    loopInv c fl fgc fuc fgs fus hgc hgs huc hus y0 k s
      ⊢ wp frame (wpE (defs₀ (F := F)) Variants.none c none) Set.univ
          (k0_t1_body xH (Memref.isWhole_whole _) arg1 harg1 gcH (Memref.isWhole_whole _) gsH (Memref.isWhole_whole _) ucH (Memref.isWhole_whole _) usH (Memref.isWhole_whole _) yH (Memref.isWhole_whole _) xV (Memref.isWhole_whole _) gcV (Memref.isWhole_whole _) gsV (Memref.isWhole_whole _) ucV (Memref.isWhole_whole _) usV (Memref.isWhole_whole _) lhsV (Memref.isWhole_whole _) gwV (Memref.isWhole_whole _) uwV (Memref.isWhole_whole _) yV (Memref.isWhole_whole _) cc0_scratch9 cc0_scratch10 cc0_scratch11 cc0_scratch12 cc0_scratch13 cc0_scratch14 x1 x2 x3 x4 x5 k s) (loopInv c fl fgc fuc fgs fus hgc hgs huc hus y0 (k.val + 1)) := by
  unfold loopInv
  iintro ⟨%hs, Hl, ⟨%fgw, Hgw⟩, ⟨%fuw, Huw⟩, Hy, ⟨A1, D1⟩, ⟨A2, D2⟩, ⟨A3, D3⟩, ⟨A4, D4⟩, ⟨%W, HW⟩⟩
  subst hs
  simp only [Ring.bigSep_rangeSet_head (lo := k.val) (hi := 20) k.isLt k.isLt, Ring.bigSep_rangeSet_last (lo := 0) (hi := k.val + 1) (Nat.succ_pos _) k.isLt]
  icases A1 with ⟨F1, A1⟩
  icases A2 with ⟨F2, A2⟩
  icases A3 with ⟨F3, A3⟩
  icases A4 with ⟨F4, A4⟩
  iapply (tripRun c k (st c fl fgc fuc fgs fus k).1 (st c fl fgc fuc fgs fus k).2.1 fl fgc fuc fgs fus).2 arg1 harg1 hgc huc hgs hus x1 x2 x3 x4 x5 (yAt c fl fgc fuc fgs fus y0 k) fgw fuw W
  isplitl [Hl]; · iexact Hl
  isplitl [Hgw]; · iexact Hgw
  isplitl [Huw]; · iexact Huw
  isplitl [Hy]; · iexact Hy
  isplitl [F1]; · iexact F1
  isplitl [F2]; · iexact F2
  isplitl [F3]; · iexact F3
  isplitl [F4]; · iexact F4
  isplitl [HW]; · iexact HW
  iintro ⟨Hl, Hgw, Huw, Hy, F1d, F1s, F1, F2d, F2s, F2, F3d, F3s, F3, F4d, F4s, F4, HW⟩
  isplitr; · ipureintro; rw [st, dif_pos k.isLt]
  isplitl [Hl]; · iexact Hl
  isplitl [Hgw]; · iexact Hgw
  isplitl [Huw]; · iexact Huw
  isplitl [Hy]; · rw [yAt, dif_pos k.isLt]; iexact Hy
  isplitl [A1 D1 F1d F1s F1]
  · isplitl [A1]; · iexact A1
    isplitr [D1]
    · unfold scaleDone; isplitl [F1d]; · iexact F1d
      isplitl [F1s]; · iexact F1s
      iexact F1
    · iexact D1
  isplitl [A2 D2 F2d F2s F2]
  · isplitl [A2]; · iexact A2
    isplitr [D2]
    · unfold scaleDone; isplitl [F2d]; · iexact F2d
      isplitl [F2s]; · iexact F2s
      iexact F2
    · iexact D2
  isplitl [A3 D3 F3d F3s F3]
  · isplitl [A3]; · iexact A3
    isplitr [D3]
    · unfold codeDone; isplitl [F3d]; · iexact F3d
      isplitl [F3s]; · iexact F3s
      iexact F3
    · iexact D3
  isplitl [A4 D4 F4d F4s F4]
  · isplitl [A4]; · iexact A4
    isplitr [D4]
    · unfold codeDone; isplitl [F4d]; · iexact F4d
      isplitl [F4s]; · iexact F4s
      iexact F4
    · iexact D4
  iexact HW

end State

/-- The body from its arrays, its threshold and its scratch buffers: what the expanded operand and the result hold. -/
def bodyRun (c : Dev nD) (arg1 : Memref sig .tc .smem S1 .f32)
    (ft : Bf (F := F) c arg1) (fx : Bf (F := F) c xH) (x0 : Bf (F := F) c xV)
    (Ggc : Bf (F := F) c gcV) (Ggs : Bf (F := F) c gsV) (Guc : Bf (F := F) c ucV) (Gus : Bf (F := F) c usV) (y0 : Bf (F := F) c yV) (z0 : Bf (F := F) c yH) :
    { R : Bf (F := F) c lhsV × Bf (F := F) c yH // ∀ (harg1 : arg1.IsWhole)
    (fgc : Bf (F := F) c gcH) (fgs : Bf (F := F) c gsH) (fuc : Bf (F := F) c ucH) (fus : Bf (F := F) c usH)
    (hgc : codeLanded c gcV gcH Ggc fgc) (hgs : scaleLanded c gsV gsH Ggs fgs) (huc : codeLanded c ucV ucH Guc fuc) (hus : scaleLanded c usV usH Gus fus)
    (l0 : Bf (F := F) c lhsV) (w0 : Bf (F := F) c gwV) (w1 : Bf (F := F) c uwV)
    (W : Waits sig Unit) (K : PUnit → sProp 𝕄),
    iprop((arg1.view.loc (c : Thread nD τ) ↦[arg1.view.set]{fullShare} ft) ∗ (xH.view.loc (c : Thread nD τ) ↦{fullShare} fx)
      ∗ (yH.view.loc (c : Thread nD τ) ↦{fullShare} z0)
      ∗ (xV.view.loc (c : Thread nD τ) ↦{fullShare} x0)
      ∗ codeStarts c gcV gcH cc0_scratch12 Ggc fgc 0 ∗ scaleStarts c gsV gsH cc0_scratch10 Ggs fgs 0
      ∗ codeStarts c ucV ucH cc0_scratch13 Guc fuc 0 ∗ scaleStarts c usV usH cc0_scratch11 Gus fus 0
      ∗ (lhsV.view.loc (c : Thread nD τ) ↦{fullShare} l0) ∗ (gwV.view.loc (c : Thread nD τ) ↦{fullShare} w0)
      ∗ (uwV.view.loc (c : Thread nD τ) ↦{fullShare} w1) ∗ (yV.view.loc (c : Thread nD τ) ↦{fullShare} y0)
      ∗ semVal ((c : Thread nD τ), SemLoc.dma cc0_scratch9.sem) 0 ∗ semVal ((c : Thread nD τ), SemLoc.dma cc0_scratch14.sem) 0
      ∗ owes (c : Thread nD τ) 0 W
      ∗ (iprop((arg1.view.loc (c : Thread nD τ) ↦[arg1.view.set]{fullShare} ft) ∗ (xH.view.loc (c : Thread nD τ) ↦{fullShare} fx)
        ∗ (yH.view.loc (c : Thread nD τ) ↦{fullShare} R.2)
        ∗ (∃ f, xV.view.loc (c : Thread nD τ) ↦{fullShare} f)
        ∗ bigSep (Ring.rangeSet k0_t1_loop.trips 0 20) (codeDone c gcV gcH cc0_scratch12 Ggc fgc) ∗ bigSep (Ring.rangeSet k0_t1_loop.trips 0 20) (scaleDone c gsV gsH cc0_scratch10 Ggs fgs)
        ∗ bigSep (Ring.rangeSet k0_t1_loop.trips 0 20) (codeDone c ucV ucH cc0_scratch13 Guc fuc) ∗ bigSep (Ring.rangeSet k0_t1_loop.trips 0 20) (scaleDone c usV usH cc0_scratch11 Gus fus)
        ∗ (∃ f, lhsV.view.loc (c : Thread nD τ) ↦{fullShare} f) ∗ (∃ f, gwV.view.loc (c : Thread nD τ) ↦{fullShare} f)
        ∗ (∃ f, uwV.view.loc (c : Thread nD τ) ↦{fullShare} f) ∗ (∃ f, yV.view.loc (c : Thread nD τ) ↦{fullShare} f)
        ∗ semVal ((c : Thread nD τ), SemLoc.dma cc0_scratch9.sem) 0 ∗ semVal ((c : Thread nD τ), SemLoc.dma cc0_scratch14.sem) 0
        ∗ ∃ W', owes (c : Thread nD τ) 0 W') -∗ K ⟨⟩))
    ⊢ wp frame (wpE (defs₀ (F := F)) Variants.none c none) Set.univ
        (cc0_teal_int4_gate_up xH (Memref.isWhole_whole _) arg1 harg1 gcH (Memref.isWhole_whole _) gsH (Memref.isWhole_whole _) ucH (Memref.isWhole_whole _) usH (Memref.isWhole_whole _) yH (Memref.isWhole_whole _) xV (Memref.isWhole_whole _) gcV (Memref.isWhole_whole _) gsV (Memref.isWhole_whole _) ucV (Memref.isWhole_whole _) usV (Memref.isWhole_whole _) lhsV (Memref.isWhole_whole _) gwV (Memref.isWhole_whole _) uwV (Memref.isWhole_whole _) yV (Memref.isWhole_whole _) cc0_scratch9 cc0_scratch10 cc0_scratch11 cc0_scratch12 cc0_scratch13 cc0_scratch14) K } := by
  refine ⟨⟨?fl, ?yf⟩, fun harg1 fgc fgs fuc fus hgc hgs huc hus l0 w0 w1 W K => ?run⟩
  case run =>
  iintro ⟨Ht, Hx, Hyh, Hxv, Hgc, Hgs, Huc, Hus, Hl, Hgw, Huw, Hy, Q1, Q2, HW, Hk⟩
  sl_exec_parts
  iterate 20
    iapply (scale_start c gsV gsH cc0_scratch10 hgs)
    isplitr; · ipureintro; decide
    isplitl [Hgs]; · iexact Hgs
    iintro Hgs
    sl_exec_parts
    iapply (scale_start c usV usH cc0_scratch11 hus)
    isplitr; · ipureintro; decide
    isplitl [Hus]; · iexact Hus
    iintro Hus
    sl_exec_parts
    iapply (code_start c gcV gcH cc0_scratch12 hgc)
    isplitr; · ipureintro; decide
    isplitl [Hgc]; · iexact Hgc
    iintro Hgc
    sl_exec_parts
    iapply (code_start c ucV ucH cc0_scratch13 huc)
    isplitr; · ipureintro; decide
    isplitl [Huc]; · iexact Huc
    iintro Huc
    sl_exec_parts
  ihave Hl := (show (lhsV.view.loc (c : Thread nD τ) ↦{fullShare} _ : sProp 𝕄) ⊢ lhsV.view.loc (c : Thread nD τ) ↦{fullShare} ?fl from Entails.rfl) $$ Hl
  unfold scaleStarts codeStarts
  icases Hgs with ⟨-, Hgs⟩
  icases Hus with ⟨-, Hus⟩
  icases Hgc with ⟨-, Hgc⟩
  icases Huc with ⟨-, Huc⟩
  sl_for (loopInv c ?fl Ggc Guc Ggs Gus fgc fgs fuc fus y0) $$ [Ht Hx Hxv Hyh Q1 Q2 Hk Hl Hgw Huw Hy Hgs Hus Hgc Huc HW]
  · exact fun k s => trip_sound c _ Ggc Guc Ggs Gus arg1 harg1 fgc fgs fuc fus y0 _ _ _ _ _ k s
  isplitl [Hl Hgw Huw Hy Hgs Hus Hgc Huc HW]
  · unfold loopInv
    isplitr; · ipureintro; rfl
    isplitl [Hl]; · iexact Hl
    isplitl [Hgw]; · iexists _; iexact Hgw
    isplitl [Huw]; · iexists _; iexact Huw
    isplitl [Hy]; · iexact Hy
    isplitl [Hgs]
    · isplitl [Hgs]; · iexact Hgs
      irw [Ring.bigSep_rangeSet_empty (lo := 0) (hi := 0) (Nat.le_refl 0)]; iempintro
    isplitl [Hus]
    · isplitl [Hus]; · iexact Hus
      irw [Ring.bigSep_rangeSet_empty (lo := 0) (hi := 0) (Nat.le_refl 0)]; iempintro
    isplitl [Hgc]
    · isplitl [Hgc]; · iexact Hgc
      irw [Ring.bigSep_rangeSet_empty (lo := 0) (hi := 0) (Nat.le_refl 0)]; iempintro
    isplitl [Huc]
    · isplitl [Huc]; · iexact Huc
      irw [Ring.bigSep_rangeSet_empty (lo := 0) (hi := 0) (Nat.le_refl 0)]; iempintro
    iexists _; iexact HW
  iintro %s H
  unfold loopInv
  icases H with ⟨%hs, Hl, ⟨%fgw, Hgw⟩, ⟨%fuw, Huw⟩, Hy, ⟨-, Hgs⟩, ⟨-, Hus⟩, ⟨-, Hgc⟩, ⟨-, Huc⟩, ⟨%W2, HW⟩⟩
  have hd : s.Drained := by
    subst hs
    exact ⟨fun q r => by rw [(st c _ Ggc Guc Ggs Gus _).2.1 q r]; rfl, fun q R => Bool.eq_false_iff.mpr ((st c _ Ggc Guc Ggs Gus _).2.2 q R)⟩
  sl_exec_parts
  sl_step
  iapply Hk
  isplitl [Ht]; · iexact Ht
  isplitl [Hx]; · iexact Hx
  isplitl [Hyh]; · iexact Hyh
  isplitl [Hxv]; · iexists _; iexact Hxv
  isplitl [Hgc]; · iexact Hgc
  isplitl [Hgs]; · iexact Hgs
  isplitl [Huc]; · iexact Huc
  isplitl [Hus]; · iexact Hus
  isplitl [Hl]; · iexists _; iexact Hl
  isplitl [Hgw]; · iexists _; iexact Hgw
  isplitl [Huw]; · iexists _; iexact Huw
  isplitl [Hy]; · iexists _; iexact Hy
  isplitl [Q1]; · iexact Q1
  isplitl [Q2]; · iexact Q2
  iexists _; iexact HW

end Cert.Kernel.Hand

end
-- ==== Proof.Bits.Pieces.lean ====
module

public import proofs.«01_k».proof.Proof.Gen.Kernel.Frame
public import proofs.«01_k».proof.Proof.Gen.Kernel.Skeleton
public import proofs.«01_k».proof.Proof.Bits.Body
public import Idealize.ShloMosaic.Lib.Transfers
public import Idealize.ShloMosaic.Lib.Ring
public import Idealize.ShloMosaic.Lib.Mxu.Walk
public import Idealize.ShloMosaic.Lib.ValueLayout
public import Idealize.ShloMosaic.Lib.Tactic

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [BitOps F]

local notation "𝕄" => MT nD τ sig Unit (Elt F) ℕ (Pipeline.UD sig nD τ) ℕ

/-! ### The scale blocks cut and joined -/

section Scale

variable (c : Dev nD) (V : Memref sig .tc .vmem S20x20x512 .f32) (H : Memref sig .tc .hbm S20x10240 .f32) (A : DmaSems sig S20)

/-- Block `k`'s elements of the two buffers. -/
abbrev scaleSlotSet (k : Fin k0_t1_loop.trips) : Finset V.view.ty.Idx := (scaleSlot V k).view.set
abbrev scaleColsSet (k : Fin k0_t1_loop.trips) : Finset H.view.ty.Idx := (scaleCols H k).view.set

/-- Different blocks share no element, and together they are the buffers. -/
def scaleCut : Prop :=
  ((∀ k k', k ≠ k' → Disjoint (scaleSlotSet V k) (scaleSlotSet V k')) ∧ Finset.univ.biUnion (scaleSlotSet V) = Finset.univ)
  ∧ (∀ k k', k ≠ k' → Disjoint (scaleColsSet H k) (scaleColsSet H k')) ∧ Finset.univ.biUnion (scaleColsSet H) = Finset.univ

/-- The whole buffers and the twenty semaphores are the twenty copies not yet started. -/
theorem scaleStarts_of (hcut : scaleCut V H) (f : Bf (F := F) c V) (h : Bf (F := F) c H) (G : Bf (F := F) c V) :
    iprop((V.view.loc (c : Thread nD τ) ↦{fullShare} f) ∗ (H.view.loc (c : Thread nD τ) ↦{fullShare} h)
        ∗ bigSep Finset.univ (fun k : Fin k0_t1_loop.trips => semVal ((c : Thread nD τ), SemLoc.dma (cell A k)) 0))
      ⊢ (scaleStarts c V H A G h 0 : sProp 𝕄) := by
  have hm : (bigSep Finset.univ (fun k : Fin k0_t1_loop.trips => V.view.loc (c : Thread nD τ) ↦[scaleSlotSet V k]{fullShare} f) : sProp 𝕄)
      ⊢ bigSep Finset.univ (fun k : Fin k0_t1_loop.trips => iprop(∃ f, (scaleSlot V k).view.loc (c : Thread nD τ) ↦[(scaleSlot V k).view.set]{fullShare} f)) :=
    BI.bigSep_mono fun k _ => show (V.view.loc (c : Thread nD τ) ↦[scaleSlotSet V k]{fullShare} f : sProp 𝕄) ⊢ iprop(∃ f, (scaleSlot V k).view.loc (c : Thread nD τ) ↦[(scaleSlot V k).view.set]{fullShare} f) from by
      iintro H; iexists f; iexact H
  unfold scaleStarts
  rw [Ring.bigSep_rangeSet_empty (lo := 0) (hi := 0) (Nat.le_refl 0), show Ring.rangeSet k0_t1_loop.trips 0 20 = Finset.univ from by decide]
  unfold scalePend
  rw [bigSep_sep', bigSep_sep', Ring.pointsTo_blocks (ℓ := V.view.loc (c : Thread nD τ)) (scaleSlotSet V) hcut.1.1 hcut.1.2 f,
    Ring.pointsTo_blocks (ℓ := H.view.loc (c : Thread nD τ)) (scaleColsSet H) hcut.2.1 hcut.2.2 h]
  iintro ⟨HV, HH, HS⟩
  isplitl
  · isplitl [HS]; · iexact HS
    isplitl [HV]
    · iapply hm $$ HV
    iexact HH
  iempintro

/-- The twenty copies waited for are the whole buffers and the twenty semaphores. -/
theorem scaleDone_join (hcut : scaleCut V H) (h : Bf (F := F) c H) (G : Bf (F := F) c V) :
    (bigSep (Ring.rangeSet k0_t1_loop.trips 0 20) (scaleDone c V H A G h) : sProp 𝕄)
      ⊢ iprop((V.view.loc (c : Thread nD τ) ↦{fullShare} G) ∗ (H.view.loc (c : Thread nD τ) ↦{fullShare} h)
        ∗ bigSep Finset.univ (fun k : Fin k0_t1_loop.trips => semVal ((c : Thread nD τ), SemLoc.dma (cell A k)) 0)) := by
  rw [show Ring.rangeSet k0_t1_loop.trips 0 20 = Finset.univ from by decide]
  unfold scaleDone
  rw [bigSep_sep', bigSep_sep', Ring.pointsTo_blocks (ℓ := V.view.loc (c : Thread nD τ)) (scaleSlotSet V) hcut.1.1 hcut.1.2 G,
    Ring.pointsTo_blocks (ℓ := H.view.loc (c : Thread nD τ)) (scaleColsSet H) hcut.2.1 hcut.2.2 h]

end Scale

theorem gsCut : scaleCut gsV gsH := by
  have e1 : (scaleSlotSet gsV) = fun k => (Rect.unit (s := S20x20x512) (k0_off2 k) S1x20x512.size (k0_off2_inb k)).set := funext fun k =>
    (View.set_reshape _ _).trans (View.set_slice_whole _ _)
  have e2 : (scaleColsSet gsH) = fun k => (Rect.unit (s := S20x10240) (k0_off3 k) S20x512.size (k0_off3_inb k)).set := funext fun k =>
    View.set_slice_whole _ _
  unfold scaleCut
  rw [e1, e2]
  refine ⟨⟨?_, ?_⟩, ?_, ?_⟩
  · exact Ring.lead_disjoint (s := S20x20x512) 0 1 k0_off2 S1x20x512.size k0_off2_inb (fun k => by rw [k0_off2_eq]; exact (Nat.one_mul _).symm) rfl
  · exact Ring.lead_cover (s := S20x20x512) 0 1 k0_off2 S1x20x512.size k0_off2_inb (fun k => by rw [k0_off2_eq]; exact (Nat.one_mul _).symm)
      (fun k a ha => by rw [k0_off2_eq]; revert ha; fin_cases a <;> simp) rfl (fun a ha => by revert ha; fin_cases a <;> simp) (by decide)
  · exact Ring.lead_disjoint (s := S20x10240) 1 512 k0_off3 S20x512.size k0_off3_inb (fun k => by rw [k0_off3_eq]; rfl) rfl
  · exact Ring.lead_cover (s := S20x10240) 1 512 k0_off3 S20x512.size k0_off3_inb (fun k => by rw [k0_off3_eq]; rfl)
      (fun k a ha => by rw [k0_off3_eq]; revert ha; fin_cases a <;> simp) rfl (fun a ha => by revert ha; fin_cases a <;> simp) (by decide)

theorem usCut : scaleCut usV usH := by
  have e1 : (scaleSlotSet usV) = fun k => (Rect.unit (s := S20x20x512) (k0_off2 k) S1x20x512.size (k0_off2_inb k)).set := funext fun k =>
    (View.set_reshape _ _).trans (View.set_slice_whole _ _)
  have e2 : (scaleColsSet usH) = fun k => (Rect.unit (s := S20x10240) (k0_off3 k) S20x512.size (k0_off3_inb k)).set := funext fun k =>
    View.set_slice_whole _ _
  unfold scaleCut
  rw [e1, e2]
  refine ⟨⟨?_, ?_⟩, ?_, ?_⟩
  · exact Ring.lead_disjoint (s := S20x20x512) 0 1 k0_off2 S1x20x512.size k0_off2_inb (fun k => by rw [k0_off2_eq]; exact (Nat.one_mul _).symm) rfl
  · exact Ring.lead_cover (s := S20x20x512) 0 1 k0_off2 S1x20x512.size k0_off2_inb (fun k => by rw [k0_off2_eq]; exact (Nat.one_mul _).symm)
      (fun k a ha => by rw [k0_off2_eq]; revert ha; fin_cases a <;> simp) rfl (fun a ha => by revert ha; fin_cases a <;> simp) (by decide)
  · exact Ring.lead_disjoint (s := S20x10240) 1 512 k0_off3 S20x512.size k0_off3_inb (fun k => by rw [k0_off3_eq]; rfl) rfl
  · exact Ring.lead_cover (s := S20x10240) 1 512 k0_off3 S20x512.size k0_off3_inb (fun k => by rw [k0_off3_eq]; rfl)
      (fun k a ha => by rw [k0_off3_eq]; revert ha; fin_cases a <;> simp) rfl (fun a ha => by revert ha; fin_cases a <;> simp) (by decide)

/-- Block by block, a scale array's columns. -/
def scaleBlocks (h : S20x10240.Idx → Elt F .f32) : S20x20x512.Idx → Elt F .f32 := fun i =>
  h (ix2 (i 1) ⟨512 * (i 0).val + (i 2).val, by have h0 := (i 0).isLt; have h2 := (i 2).isLt; have e0 : S20x20x512.size 0 = 20 := rfl; have e2 : S20x20x512.size 2 = 512 := rfl; have e3 : S20x10240.size 1 = 10240 := rfl; show _ < 10240; omega⟩)

theorem gsLanded (c : Dev nD) (h : Bf (F := F) c gsH) : scaleLanded c gsV gsH (scaleBlocks h) h := by
  intro k
  funext i
  obtain ⟨r, l, rfl⟩ : ∃ (r : Fin 20) (l : Fin 512), i = ix2 r l := ⟨i 0, i 1, funext fun a => by fin_cases a <;> rfl⟩
  show scaleBlocks h ((Rect.unit (s := S20x20x512) (k0_off2 k) S1x20x512.size (k0_off2_inb k)).emb (Shape.reshapeEquiv _ (ix2 r l)))
    = h ((Rect.unit (s := S20x10240) (k0_off3 k) S20x512.size (k0_off3_inb k)).emb (ix2 r l))
  rw [reshapeEquiv_ix2_1ab]
  unfold scaleBlocks
  refine congrArg h (funext fun a => Fin.ext ?_)
  have e1 := k0_off2_eq k
  have e2 := k0_off3_eq k
  fin_cases a
  · show k0_off2 k 1 + 1 * r.val = k0_off3 k 0 + 1 * r.val
    rw [e1, e2]; rfl
  · show 512 * (k0_off2 k 0 + 1 * 0) + (k0_off2 k 2 + 1 * l.val) = k0_off3 k 1 + 1 * l.val
    rw [e1, e2]
    show 512 * (k.val + 1 * 0) + (0 + 1 * l.val) = 512 * k.val + 1 * l.val
    omega

theorem usLanded (c : Dev nD) (h : Bf (F := F) c usH) : scaleLanded c usV usH (scaleBlocks h) h := by
  intro k
  funext i
  obtain ⟨r, l, rfl⟩ : ∃ (r : Fin 20) (l : Fin 512), i = ix2 r l := ⟨i 0, i 1, funext fun a => by fin_cases a <;> rfl⟩
  show scaleBlocks h ((Rect.unit (s := S20x20x512) (k0_off2 k) S1x20x512.size (k0_off2_inb k)).emb (Shape.reshapeEquiv _ (ix2 r l)))
    = h ((Rect.unit (s := S20x10240) (k0_off3 k) S20x512.size (k0_off3_inb k)).emb (ix2 r l))
  rw [reshapeEquiv_ix2_1ab]
  unfold scaleBlocks
  refine congrArg h (funext fun a => Fin.ext ?_)
  have e1 := k0_off2_eq k
  have e2 := k0_off3_eq k
  fin_cases a
  · show k0_off2 k 1 + 1 * r.val = k0_off3 k 0 + 1 * r.val
    rw [e1, e2]; rfl
  · show 512 * (k0_off2 k 0 + 1 * 0) + (k0_off2 k 2 + 1 * l.val) = k0_off3 k 1 + 1 * l.val
    rw [e1, e2]
    show 512 * (k.val + 1 * 0) + (0 + 1 * l.val) = 512 * k.val + 1 * l.val
    omega

/-! ### The code blocks cut and joined -/

section Code

variable (c : Dev nD) (V : Memref sig .tc .vmem S20x2560x256 .i8) (H : Memref sig .tc .hbm S2560x5120 .i8) (A : DmaSems sig S20)

/-- Block `k`'s elements of the two buffers. -/
abbrev codeSlotSet (k : Fin k0_t1_loop.trips) : Finset V.view.ty.Idx := (codeSlot V k).view.set
abbrev codeColsSet (k : Fin k0_t1_loop.trips) : Finset H.view.ty.Idx := (codeCols H k).view.set

/-- Different blocks share no element, and together they are the buffers. -/
def codeCut : Prop :=
  ((∀ k k', k ≠ k' → Disjoint (codeSlotSet V k) (codeSlotSet V k')) ∧ Finset.univ.biUnion (codeSlotSet V) = Finset.univ)
  ∧ (∀ k k', k ≠ k' → Disjoint (codeColsSet H k) (codeColsSet H k')) ∧ Finset.univ.biUnion (codeColsSet H) = Finset.univ

/-- The whole buffers and the twenty semaphores are the twenty copies not yet started. -/
theorem codeStarts_of (hcut : codeCut V H) (f : Bf (F := F) c V) (h : Bf (F := F) c H) (G : Bf (F := F) c V) :
    iprop((V.view.loc (c : Thread nD τ) ↦{fullShare} f) ∗ (H.view.loc (c : Thread nD τ) ↦{fullShare} h)
        ∗ bigSep Finset.univ (fun k : Fin k0_t1_loop.trips => semVal ((c : Thread nD τ), SemLoc.dma (cell A k)) 0))
      ⊢ (codeStarts c V H A G h 0 : sProp 𝕄) := by
  have hm : (bigSep Finset.univ (fun k : Fin k0_t1_loop.trips => V.view.loc (c : Thread nD τ) ↦[codeSlotSet V k]{fullShare} f) : sProp 𝕄)
      ⊢ bigSep Finset.univ (fun k : Fin k0_t1_loop.trips => iprop(∃ f, (codeSlot V k).view.loc (c : Thread nD τ) ↦[(codeSlot V k).view.set]{fullShare} f)) :=
    BI.bigSep_mono fun k _ => show (V.view.loc (c : Thread nD τ) ↦[codeSlotSet V k]{fullShare} f : sProp 𝕄) ⊢ iprop(∃ f, (codeSlot V k).view.loc (c : Thread nD τ) ↦[(codeSlot V k).view.set]{fullShare} f) from by
      iintro H; iexists f; iexact H
  unfold codeStarts
  rw [Ring.bigSep_rangeSet_empty (lo := 0) (hi := 0) (Nat.le_refl 0), show Ring.rangeSet k0_t1_loop.trips 0 20 = Finset.univ from by decide]
  unfold codePend
  rw [bigSep_sep', bigSep_sep', Ring.pointsTo_blocks (ℓ := V.view.loc (c : Thread nD τ)) (codeSlotSet V) hcut.1.1 hcut.1.2 f,
    Ring.pointsTo_blocks (ℓ := H.view.loc (c : Thread nD τ)) (codeColsSet H) hcut.2.1 hcut.2.2 h]
  iintro ⟨HV, HH, HS⟩
  isplitl
  · isplitl [HS]; · iexact HS
    isplitl [HV]
    · iapply hm $$ HV
    iexact HH
  iempintro

/-- The twenty copies waited for are the whole buffers and the twenty semaphores. -/
theorem codeDone_join (hcut : codeCut V H) (h : Bf (F := F) c H) (G : Bf (F := F) c V) :
    (bigSep (Ring.rangeSet k0_t1_loop.trips 0 20) (codeDone c V H A G h) : sProp 𝕄)
      ⊢ iprop((V.view.loc (c : Thread nD τ) ↦{fullShare} G) ∗ (H.view.loc (c : Thread nD τ) ↦{fullShare} h)
        ∗ bigSep Finset.univ (fun k : Fin k0_t1_loop.trips => semVal ((c : Thread nD τ), SemLoc.dma (cell A k)) 0)) := by
  rw [show Ring.rangeSet k0_t1_loop.trips 0 20 = Finset.univ from by decide]
  unfold codeDone
  rw [bigSep_sep', bigSep_sep', Ring.pointsTo_blocks (ℓ := V.view.loc (c : Thread nD τ)) (codeSlotSet V) hcut.1.1 hcut.1.2 G,
    Ring.pointsTo_blocks (ℓ := H.view.loc (c : Thread nD τ)) (codeColsSet H) hcut.2.1 hcut.2.2 h]

end Code

theorem gcCut : codeCut gcV gcH := by
  have e1 : (codeSlotSet gcV) = fun k => (Rect.unit (s := S20x2560x256) (k0_off4 k) S1x2560x256.size (k0_off4_inb k)).set := funext fun k =>
    (View.set_reshape _ _).trans (View.set_slice_whole _ _)
  have e2 : (codeColsSet gcH) = fun k => (Rect.unit (s := S2560x5120) (k0_off5 k) S2560x256.size (k0_off5_inb k)).set := funext fun k =>
    View.set_slice_whole _ _
  unfold codeCut
  rw [e1, e2]
  refine ⟨⟨?_, ?_⟩, ?_, ?_⟩
  · exact Ring.lead_disjoint (s := S20x2560x256) 0 1 k0_off4 S1x2560x256.size k0_off4_inb (fun k => by rw [k0_off4_eq]; exact (Nat.one_mul _).symm) rfl
  · exact Ring.lead_cover (s := S20x2560x256) 0 1 k0_off4 S1x2560x256.size k0_off4_inb (fun k => by rw [k0_off4_eq]; exact (Nat.one_mul _).symm)
      (fun k a ha => by rw [k0_off4_eq]; revert ha; fin_cases a <;> simp) rfl (fun a ha => by revert ha; fin_cases a <;> simp) (by decide)
  · exact Ring.lead_disjoint (s := S2560x5120) 1 256 k0_off5 S2560x256.size k0_off5_inb (fun k => by rw [k0_off5_eq]; rfl) rfl
  · exact Ring.lead_cover (s := S2560x5120) 1 256 k0_off5 S2560x256.size k0_off5_inb (fun k => by rw [k0_off5_eq]; rfl)
      (fun k a ha => by rw [k0_off5_eq]; revert ha; fin_cases a <;> simp) rfl (fun a ha => by revert ha; fin_cases a <;> simp) (by decide)

theorem ucCut : codeCut ucV ucH := by
  have e1 : (codeSlotSet ucV) = fun k => (Rect.unit (s := S20x2560x256) (k0_off4 k) S1x2560x256.size (k0_off4_inb k)).set := funext fun k =>
    (View.set_reshape _ _).trans (View.set_slice_whole _ _)
  have e2 : (codeColsSet ucH) = fun k => (Rect.unit (s := S2560x5120) (k0_off5 k) S2560x256.size (k0_off5_inb k)).set := funext fun k =>
    View.set_slice_whole _ _
  unfold codeCut
  rw [e1, e2]
  refine ⟨⟨?_, ?_⟩, ?_, ?_⟩
  · exact Ring.lead_disjoint (s := S20x2560x256) 0 1 k0_off4 S1x2560x256.size k0_off4_inb (fun k => by rw [k0_off4_eq]; exact (Nat.one_mul _).symm) rfl
  · exact Ring.lead_cover (s := S20x2560x256) 0 1 k0_off4 S1x2560x256.size k0_off4_inb (fun k => by rw [k0_off4_eq]; exact (Nat.one_mul _).symm)
      (fun k a ha => by rw [k0_off4_eq]; revert ha; fin_cases a <;> simp) rfl (fun a ha => by revert ha; fin_cases a <;> simp) (by decide)
  · exact Ring.lead_disjoint (s := S2560x5120) 1 256 k0_off5 S2560x256.size k0_off5_inb (fun k => by rw [k0_off5_eq]; rfl) rfl
  · exact Ring.lead_cover (s := S2560x5120) 1 256 k0_off5 S2560x256.size k0_off5_inb (fun k => by rw [k0_off5_eq]; rfl)
      (fun k a ha => by rw [k0_off5_eq]; revert ha; fin_cases a <;> simp) rfl (fun a ha => by revert ha; fin_cases a <;> simp) (by decide)

/-- Block by block, a code array's columns. -/
def codeBlocks (h : S2560x5120.Idx → Elt F .i8) : S20x2560x256.Idx → Elt F .i8 := fun i =>
  h (ix2 (i 1) ⟨256 * (i 0).val + (i 2).val, by have h0 := (i 0).isLt; have h2 := (i 2).isLt; have e0 : S20x2560x256.size 0 = 20 := rfl; have e2 : S20x2560x256.size 2 = 256 := rfl; have e3 : S2560x5120.size 1 = 5120 := rfl; show _ < 5120; omega⟩)

theorem gcLanded (c : Dev nD) (h : Bf (F := F) c gcH) : codeLanded c gcV gcH (codeBlocks h) h := by
  intro k
  funext i
  obtain ⟨r, l, rfl⟩ : ∃ (r : Fin 2560) (l : Fin 256), i = ix2 r l := ⟨i 0, i 1, funext fun a => by fin_cases a <;> rfl⟩
  show codeBlocks h ((Rect.unit (s := S20x2560x256) (k0_off4 k) S1x2560x256.size (k0_off4_inb k)).emb (Shape.reshapeEquiv _ (ix2 r l)))
    = h ((Rect.unit (s := S2560x5120) (k0_off5 k) S2560x256.size (k0_off5_inb k)).emb (ix2 r l))
  rw [reshapeEquiv_ix2_1ab]
  unfold codeBlocks
  refine congrArg h (funext fun a => Fin.ext ?_)
  have e1 := k0_off4_eq k
  have e2 := k0_off5_eq k
  fin_cases a
  · show k0_off4 k 1 + 1 * r.val = k0_off5 k 0 + 1 * r.val
    rw [e1, e2]; rfl
  · show 256 * (k0_off4 k 0 + 1 * 0) + (k0_off4 k 2 + 1 * l.val) = k0_off5 k 1 + 1 * l.val
    rw [e1, e2]
    show 256 * (k.val + 1 * 0) + (0 + 1 * l.val) = 256 * k.val + 1 * l.val
    omega

theorem ucLanded (c : Dev nD) (h : Bf (F := F) c ucH) : codeLanded c ucV ucH (codeBlocks h) h := by
  intro k
  funext i
  obtain ⟨r, l, rfl⟩ : ∃ (r : Fin 2560) (l : Fin 256), i = ix2 r l := ⟨i 0, i 1, funext fun a => by fin_cases a <;> rfl⟩
  show codeBlocks h ((Rect.unit (s := S20x2560x256) (k0_off4 k) S1x2560x256.size (k0_off4_inb k)).emb (Shape.reshapeEquiv _ (ix2 r l)))
    = h ((Rect.unit (s := S2560x5120) (k0_off5 k) S2560x256.size (k0_off5_inb k)).emb (ix2 r l))
  rw [reshapeEquiv_ix2_1ab]
  unfold codeBlocks
  refine congrArg h (funext fun a => Fin.ext ?_)
  have e1 := k0_off4_eq k
  have e2 := k0_off5_eq k
  fin_cases a
  · show k0_off4 k 1 + 1 * r.val = k0_off5 k 0 + 1 * r.val
    rw [e1, e2]; rfl
  · show 256 * (k0_off4 k 0 + 1 * 0) + (k0_off4 k 2 + 1 * l.val) = k0_off5 k 1 + 1 * l.val
    rw [e1, e2]
    show 256 * (k.val + 1 * 0) + (0 + 1 * l.val) = 256 * k.val + 1 * l.val
    omega

end Cert.Kernel.Hand

end
-- ==== Proof.Bits.Launch.lean ====
module

public import proofs.«01_k».proof.Proof.Gen.Kernel.Frame
public import proofs.«01_k».proof.Proof.Gen.Kernel.Skeleton
public import proofs.«01_k».proof.Proof.Bits.Pieces
public import Idealize.ShloMosaic.Lib.Pipeline.KitQuiescent
public import Idealize.ShloMosaic.Lib.Transfers
public import Idealize.ShloMosaic.Lib.Ring
public import Idealize.ShloMosaic.Lib.Tactic

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf kernel pipe)

variable {F : FTy → Type} [BitOps F]

local notation "𝕄" => MT nD τ sig Unit (Elt F) ℕ (Pipeline.UD sig nD τ) ℕ

variable (m : (ℓ : Loc nD τ sig) → Buf (Elt F) ℓ) (ρ : Dev nD → PrngReg)

/-! ### The kernel's own semaphores -/

/-- The semaphore of the copy of `x`, that of the copy of the result, and the four families of the weight copies. -/
abbrev OwnIx : Type := (Unit ⊕ Unit) ⊕ ((Fin k0_t1_loop.trips ⊕ Fin k0_t1_loop.trips) ⊕ (Fin k0_t1_loop.trips ⊕ Fin k0_t1_loop.trips))

def osem0 : OwnIx → SemLoc sig
  | .inl (.inl _) => .dma cc0_scratch9.sem
  | .inl (.inr _) => .dma cc0_scratch14.sem
  | .inr (.inl (.inl k)) => .dma (cell cc0_scratch10 k)
  | .inr (.inl (.inr k)) => .dma (cell cc0_scratch11 k)
  | .inr (.inr (.inl k)) => .dma (cell cc0_scratch12 k)
  | .inr (.inr (.inr k)) => .dma (cell cc0_scratch13 k)

theorem ownSemFacts0 : Pipeline.OwnSemFacts spec0 osem0 := by decide +kernel

/-- The twenty semaphores of one family, at zero. -/
def zeros (c : Dev nD) (A : DmaSems sig S20) : sProp 𝕄 :=
  bigSep Finset.univ (fun k : Fin k0_t1_loop.trips => semVal ((c : Thread nD τ), SemLoc.dma (cell A k)) 0)

theorem ownSems00_eq (c : Dev nD) :
    (Pipeline.ownSems0 (Ix := Unit) (Name := ℕ) (U := Pipeline.UD sig nD τ) (Lvl := ℕ) (Val := Elt F) (τ := τ) osem0 c : sProp 𝕄)
      = iprop((semVal ((c : Thread nD τ), SemLoc.dma cc0_scratch9.sem) 0 ∗ semVal ((c : Thread nD τ), SemLoc.dma cc0_scratch14.sem) 0)
          ∗ (zeros c cc0_scratch10 ∗ zeros c cc0_scratch11) ∗ (zeros c cc0_scratch12 ∗ zeros c cc0_scratch13)) := by
  unfold Pipeline.ownSems0 zeros
  rw [BI.bigSep_univ_sum, BI.bigSep_univ_sum, BI.bigSep_univ_sum, BI.bigSep_univ_sum, BI.bigSep_univ_sum,
    BI.bigSep_univ_of_subsingleton (), BI.bigSep_univ_of_subsingleton ()]
  rfl

/-! ### The region -/

/-- What the result may hold at the end: what the body computes from the region's arrays. -/
def Res (c : Dev nD) (R : Bf (F := F) c yH) : Prop :=
  ∃ (ft : Bf (F := F) c (st0_0 t0_0)) (x0 : Bf (F := F) c xV) (y0 : Bf (F := F) c yV) (z0 : Bf (F := F) c yH),
    (st0_0 t0_0).view.read (Elt F) ft = iblk m c 0 t0_0
    ∧ R = (bodyRun c (st0_0 t0_0) ft (V m c main_v0) x0 (codeBlocks (V m c main_arg2)) (scaleBlocks (V m c main_arg3))
        (codeBlocks (V m c main_arg4)) (scaleBlocks (V m c main_arg5)) y0 z0).1.2

/-- The arrays the body reads through its own copies. -/
def reads (c : Dev nD) : sProp 𝕄 :=
  iprop((xH.view.loc (c : Thread nD τ) ↦{fullShare} V m c main_v0)
    ∗ (gcH.view.loc (c : Thread nD τ) ↦{fullShare} V m c main_arg2) ∗ (gsH.view.loc (c : Thread nD τ) ↦{fullShare} V m c main_arg3)
    ∗ (ucH.view.loc (c : Thread nD τ) ↦{fullShare} V m c main_arg4) ∗ (usH.view.loc (c : Thread nD τ) ↦{fullShare} V m c main_arg5))

/-- The result before and after the region. -/
def before (c : Dev nD) : sProp 𝕄 := iprop(reads m c ∗ yH.view.loc (c : Thread nD τ) ↦{fullShare} V m c main_v2)
def after (c : Dev nD) : sProp 𝕄 := iprop(reads m c ∗ ∃ R, ⌜Res m c R⌝ ∗ yH.view.loc (c : Thread nD τ) ↦{fullShare} R)

/-- The scratch buffers and the semaphores. -/
def scratch (c : Dev nD) : sProp 𝕄 :=
  iprop(Pipeline.ownSems0 (Ix := Unit) (Name := ℕ) (U := Pipeline.UD sig nD τ) (Lvl := ℕ) (Val := Elt F) (τ := τ) osem0 c
    ∗ Pipeline.scopedRest (Ix := Unit) (Name := ℕ) (U := Pipeline.UD sig nD τ) (Lvl := ℕ) (Val := Elt F) spec0 c)

def Phi (c : Dev nD) (i : ℕ) : sProp 𝕄 := if i = 0 then iprop(before m c ∗ scratch c) else iprop(after m c ∗ scratch c)

def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
  Φ i := Phi m c i.val
  q _ := fullShare
  owed _ := 0

theorem A_eq (c : Dev nD) (w : Fin cfg0.W) : (dats m 0 c).A w = V m c (Pipeline.arrRef spec0 w) := by
  dsimp only [dats]
theorem after0_0 (c : Dev nD) (t : Fin cfg0.N) : (dats m 0 c).after 0 t = iblk m c 0 t := by dsimp only [dats]

theorem before0_0 (c : Dev nD) (t : Fin cfg0.N) (d) : (dats m 0 c).before 0 t d = iblk m c 0 t :=
  ((dats m 0 c).before_in_eq_fetched 0 rfl (fun _ => rfl) (fun _ _ _ => rfl) (fun t => by rw [after0_0]; unfold Dat.blockOf iblk; rw [A_eq]; try rfl) t d).trans
    (by unfold Dat.fetched Dat.blockOf iblk; rw [A_eq]; try rfl)

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d)))
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t))

theorem sound_body (c : Dev nD) (t : Fin cfg0.N) :
    bodyPre m c t ⊢ wp frame (wpE (defs₀ (F := F)) Variants.none c none) Set.univ (bodyAt0 t) (fun _ => bodyPost m c t) := by
  obtain rfl : t = t0_0 := fin_N0 t
  unfold bodyPre bodyPost bodyAt0
  rw [after0_0, show (dats m 0 c).Φ (Fin.succ t0_0) = iprop(after m c ∗ scratch c) from rfl,
    show (dats m 0 c).Φ (Fin.castSucc t0_0) = iprop(before m c ∗ scratch c) from rfl]
  simp only [before0_0]
  unfold Dat.owesAt Pipeline.owesWithin
  rw [show (dats m 0 c).owed (Fin.castSucc t0_0) = 0 from rfl, show (dats m 0 c).owed (Fin.succ t0_0) = 0 from rfl]
  unfold before after scratch reads
  rw [ownSems00_eq, scopedRest0_eq]
  unfold zeros
  iintro ⟨⟨⟨⟨Hx, Hgc, Hgs, Huc, Hus⟩, Hyh⟩, ⟨⟨Q1, Q2⟩, ⟨S10, S11⟩, ⟨S12, S13⟩⟩, ⟨%x0, Hxv⟩, ⟨%f1, B1⟩, ⟨%f2, B2⟩, ⟨%f3, B3⟩, ⟨%f4, B4⟩, ⟨%l0, Hl⟩, ⟨%w0, Hw0⟩, ⟨%w1, Hw1⟩, ⟨%y0, Hy⟩⟩, ⟨%W, -, HW⟩, ⟨%d0, Ht⟩⟩
  unfold owns
  icases Ht with ⟨%ft, %hft, Ht⟩
  ihave K1 := (codeStarts_of c gcV gcH cc0_scratch12 gcCut f1 (V m c main_arg2) (codeBlocks (V m c main_arg2))) $$ [B1 Hgc S12]
  · isplitl [B1]; · iexact B1
    isplitl [Hgc]; · iexact Hgc
    iexact S12
  ihave K2 := (scaleStarts_of c gsV gsH cc0_scratch10 gsCut f2 (V m c main_arg3) (scaleBlocks (V m c main_arg3))) $$ [B2 Hgs S10]
  · isplitl [B2]; · iexact B2
    isplitl [Hgs]; · iexact Hgs
    iexact S10
  ihave K3 := (codeStarts_of c ucV ucH cc0_scratch13 ucCut f3 (V m c main_arg4) (codeBlocks (V m c main_arg4))) $$ [B3 Huc S13]
  · isplitl [B3]; · iexact B3
    isplitl [Huc]; · iexact Huc
    iexact S13
  ihave K4 := (scaleStarts_of c usV usH cc0_scratch11 usCut f4 (V m c main_arg5) (scaleBlocks (V m c main_arg5))) $$ [B4 Hus S11]
  · isplitl [B4]; · iexact B4
    isplitl [Hus]; · iexact Hus
    iexact S11
  iapply ((bodyRun c (st0_0 t0_0) ft (V m c main_v0) x0 (codeBlocks (V m c main_arg2)) (scaleBlocks (V m c main_arg3))
        (codeBlocks (V m c main_arg4)) (scaleBlocks (V m c main_arg5)) y0 (V m c main_v2)).2 (hstage0_0 0) (V m c main_arg2) (V m c main_arg3) (V m c main_arg4) (V m c main_arg5)
        (gcLanded c _) (gsLanded c _) (ucLanded c _) (usLanded c _) l0 w0 w1 W _)
  isplitl [Ht]; · iexact Ht
  isplitl [Hx]; · iexact Hx
  isplitl [Hyh]; · iexact Hyh
  isplitl [Hxv]; · iexact Hxv
  isplitl [K1]; · iexact K1
  isplitl [K2]; · iexact K2
  isplitl [K3]; · iexact K3
  isplitl [K4]; · iexact K4
  isplitl [Hl]; · iexact Hl
  isplitl [Hw0]; · iexact Hw0
  isplitl [Hw1]; · iexact Hw1
  isplitl [Hy]; · iexact Hy
  isplitl [Q1]; · iexact Q1
  isplitl [Q2]; · iexact Q2
  isplitl [HW]; · iexact HW
  iintro ⟨Ht, Hx, Hyh, Hxv, K1, K2, K3, K4, Hl, Hw0, Hw1, Hy, Q1, Q2, ⟨%W', HW⟩⟩
  ihave K1 := (codeDone_join c gcV gcH cc0_scratch12 gcCut (V m c main_arg2) (codeBlocks (V m c main_arg2))) $$ K1
  icases K1 with ⟨B1, Hgc, S12⟩
  ihave K2 := (scaleDone_join c gsV gsH cc0_scratch10 gsCut (V m c main_arg3) (scaleBlocks (V m c main_arg3))) $$ K2
  icases K2 with ⟨B2, Hgs, S10⟩
  ihave K3 := (codeDone_join c ucV ucH cc0_scratch13 ucCut (V m c main_arg4) (codeBlocks (V m c main_arg4))) $$ K3
  icases K3 with ⟨B3, Huc, S13⟩
  ihave K4 := (scaleDone_join c usV usH cc0_scratch11 usCut (V m c main_arg5) (scaleBlocks (V m c main_arg5))) $$ K4
  icases K4 with ⟨B4, Hus, S11⟩
  isplitr [HW Ht]
  · isplitl [Hx Hgc Hgs Huc Hus Hyh]
    · isplitl [Hx Hgc Hgs Huc Hus]
      · isplitl [Hx]; · iexact Hx
        isplitl [Hgc]; · iexact Hgc
        isplitl [Hgs]; · iexact Hgs
        isplitl [Huc]; · iexact Huc
        iexact Hus
      iexists _
      isplitr
      swap; · iexact Hyh
      ipureintro
      exact ⟨ft, x0, y0, _, hft, rfl⟩
    isplitl [Q1 Q2 S10 S11 S12 S13]
    · isplitl [Q1 Q2]
      · isplitl [Q1]; · iexact Q1
        iexact Q2
      isplitl [S10 S11]
      · isplitl [S10]; · iexact S10
        iexact S11
      isplitl [S12]; · iexact S12
      iexact S13
    isplitl [Hxv]; · iexact Hxv
    isplitl [B1]; · iexists _; iexact B1
    isplitl [B2]; · iexists _; iexact B2
    isplitl [B3]; · iexists _; iexact B3
    isplitl [B4]; · iexists _; iexact B4
    isplitl [Hl]; · iexact Hl
    isplitl [Hw0]; · iexact Hw0
    isplitl [Hw1]; · iexact Hw1
    iexact Hy
  isplitl [HW]
  · iexists W'; isplitr; · ipureintro; exact fun _ _ => Or.inl trivial
    iexact HW
  iexists ft; isplitr; · ipureintro; exact hft
  iexact Ht

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ### The run -/

def u₀ : Pipeline.UD sig nD τ := (initOf (Pipeline.cells cfgs cellOf_inj) (Pipeline.launchToks cfgs cellOf_inj), 1)

/-- The two arguments the host alone reads. -/
def others (c : Dev nD) : sProp 𝕄 :=
  iprop(((c : Thread nD τ).loc main_arg0 ↦{fullShare} V m c main_arg0) ∗ ((c : Thread nD τ).loc main_arg1 ↦{fullShare} V m c main_arg1))

/-- What the run leaves on core `c`. -/
def QY (c : Dev nD) (s : MemSt nD τ sig (Elt F)) : Prop :=
  (s.mem ((c : Thread nD τ).loc main_arg0) = V m c main_arg0 ∧ s.mem ((c : Thread nD τ).loc main_arg1) = V m c main_arg1
    ∧ s.mem ((c : Thread nD τ).loc main_arg2) = V m c main_arg2 ∧ s.mem ((c : Thread nD τ).loc main_arg3) = V m c main_arg3
    ∧ s.mem ((c : Thread nD τ).loc main_arg4) = V m c main_arg4 ∧ s.mem ((c : Thread nD τ).loc main_arg5) = V m c main_arg5)
  ∧ Res m c (s.mem ((c : Thread nD τ).loc main_v2))

set_option backward.isDefEq.respectTransparency.types false in
theorem hmainD (𝒱₀ : Variants) : Pipeline.HMain (Ix := Unit) (Name := ℕ) (U := Pipeline.UD sig nD τ) (Lvl := ℕ) cfgs 0 defs₀ 𝒱₀ m (main (F := F)) (V m) :=
  Pipeline.hmain_prefix cfgs 0 defs₀ 𝒱₀ m main hostOps0 hostOps0_sub hostOps0_fresh main_chain

set_option backward.isDefEq.respectTransparency.types false in
/-- From any memory with zero counters the program ends, with its arguments as launched, the result at what the body
    computes and every counter at zero. -/
theorem run_main : θ_run defs (onTc (τ := τ) (main (F := F))) (s₀ m ρ) (fun r => (∀ c, QY m c r.2) ∧ r.2.sem = fun _ => 0) :=
  Pipeline.θ_run_region_kit_quiescent cfgs (dats m) () (0 : Fin 1) launch0 ownSemFacts0 embL defs₀ Variants.none m ρ main
    (hbody := fun c => (body_obligation m c).loose) (hshare := fun c => (dats m 0 c).share_full fun _ => rfl)
    (howed := fun _ _ => rfl)
    (G := fun _ => iprop(emp)) (u₀ := u₀)
    (hu₀ := by
      unfold u₀
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (V := V m) (hmain := hmainD m Variants.none) (hA := A_eq m)
    (X := fun c => iprop(before m c ∗ Pipeline.ownSems0 (Ix := Unit) (Name := ℕ) (U := Pipeline.UD sig nD τ) (Lvl := ℕ) (Val := Elt F) (τ := τ) osem0 c))
    (Y := after m) (Z := others m)
    (hX := fun c => by
      rw [unscopedRest0_eq]
      unfold before reads others
      iintro ⟨⟨H0, H1, H2, H3, H4, H5, Hv, Hr⟩, HS, -, -, -⟩; imodintro
      isplitr [H0 H1]
      · isplitr [HS]
        · isplitr [Hr]
          · isplitl [Hv]; · iexact Hv
            isplitl [H2]; · iexact H2
            isplitl [H3]; · iexact H3
            isplitl [H4]; · iexact H4
            iexact H5
          iexact Hr
        iexact HS
      isplitl [H0]; · iexact H0
      iexact H1)
    (hin := fun c => by
      rw [show (dats m 0 c).Φ 0 = iprop(before m c ∗ scratch c) from rfl]
      unfold scratch
      iintro ⟨⟨HB, HS⟩, HR⟩
      isplitl [HB]; · iexact HB
      isplitl [HS]; · iexact HS
      iexact HR)
    (hout := fun c => by
      rw [show (dats m 0 c).Φ (Fin.last cfg0.N) = iprop(after m c ∗ scratch c) from rfl]
      unfold scratch
      exact .rfl)
    (QY := QY m)
    (hY := fun c s' => by
      unfold after others reads
      iintro ⟨⟨⟨Hv, H2, H3, H4, H5⟩, ⟨%R, %hR, Hr⟩⟩, ⟨H0, H1⟩, HSI⟩
      icombine HSI H0 gives %h0
      icombine HSI H1 gives %h1
      icombine HSI H2 gives %h2
      icombine HSI H3 gives %h3
      icombine HSI H4 gives %h4
      icombine HSI H5 gives %h5
      icombine HSI Hr gives %hr
      imodintro
      isplitr
      · ipureintro
        refine ⟨⟨Buf.eq_of_forall_mem_univ h0, Buf.eq_of_forall_mem_univ h1, Buf.eq_of_forall_mem_univ h2, Buf.eq_of_forall_mem_univ h3,
          Buf.eq_of_forall_mem_univ h4, Buf.eq_of_forall_mem_univ h5⟩, ?_⟩
        have e := Buf.eq_of_forall_mem_univ hr
        exact e ▸ hR
      iexact HSI)
    (hQ := fun s h hz => ⟨fun c => (h c).2, hz⟩)

/-- The arguments as launched and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun r h => ⟨fun c => by
    obtain ⟨h0, h1, h2, h3, h4, h5⟩ := (h.1 c).1
    exact ⟨h0.trans (V_main_arg0 m c), h1.trans (V_main_arg1 m c), h2.trans (V_main_arg2 m c), h3.trans (V_main_arg3 m c),
      h4.trans (V_main_arg4 m c), h5.trans (V_main_arg5 m c)⟩, h.2⟩) (run_main m ρ)

end Cert.Kernel.Hand

end
-- ==== Proof.Ideal.Trip.lean ====
module

public import proofs.«01_k».proof.Proof.Gen.KernelIdeal.Frame
public import proofs.«01_k».proof.Proof.Gen.KernelIdeal.Skeleton
public import Idealize.ShloMosaic.Lib.Transfers
public import Idealize.ShloMosaic.Lib.Ring
public import Idealize.ShloMosaic.Lib.Mxu.Walk
public import Idealize.ShloMosaic.Lib.Tactic

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

abbrev xH : Memref sig .tc .hbm S5x2560 .bf16 := Memref.whole main_v0
abbrev gcH : Memref sig .tc .hbm S2560x5120 .i8 := Memref.whole main_arg2
abbrev gsH : Memref sig .tc .hbm S20x10240 .f32 := Memref.whole main_arg3
abbrev ucH : Memref sig .tc .hbm S2560x5120 .i8 := Memref.whole main_arg4
abbrev usH : Memref sig .tc .hbm S20x10240 .f32 := Memref.whole main_arg5
abbrev yH : Memref sig .tc .hbm S5x10240 .bf16 := Memref.whole main_v2
abbrev xV : Memref sig .tc .vmem S5x2560 .bf16 := Memref.whole cc0_scratch0
abbrev gcV : Memref sig .tc .vmem S20x2560x256 .i8 := Memref.whole cc0_scratch1
abbrev gsV : Memref sig .tc .vmem S20x20x512 .f32 := Memref.whole cc0_scratch2
abbrev ucV : Memref sig .tc .vmem S20x2560x256 .i8 := Memref.whole cc0_scratch3
abbrev usV : Memref sig .tc .vmem S20x20x512 .f32 := Memref.whole cc0_scratch4
abbrev lhsV : Memref sig .tc .vmem S16x5120 .bf16 := Memref.whole cc0_scratch5
abbrev gwV : Memref sig .tc .vmem S20x2x256 .bf16 := Memref.whole cc0_scratch6
abbrev uwV : Memref sig .tc .vmem S20x2x256 .bf16 := Memref.whole cc0_scratch7
abbrev yV : Memref sig .tc .vmem S5x10240 .bf16 := Memref.whole cc0_scratch8

/-- Memref `M`'s buffer on core `c`. -/
abbrev Bf (c : Dev nD) {sp : Space} {S : Shape} {e : EltTy} (M : Memref sig .tc sp S e) : Type := Buf (Elt F) (M.view.loc (c : Thread nD τ))

/-- A column block of a code array and its slot; a column block of a scale array and its slot. -/
abbrev codeSlot (M : Memref sig .tc .vmem S20x2560x256 .i8) (k : Fin k0_t1_loop.trips) : Memref sig .tc .vmem S2560x256 .i8 :=
  (M.slice (Rect.unit (s := S20x2560x256) (k0_off4 k) S1x2560x256.size (k0_off4_inb k)) (fun _ => rfl)).squeeze S2560x256 squeezes_S1x2560x256_S2560x256
abbrev codeCols (M : Memref sig .tc .hbm S2560x5120 .i8) (k : Fin k0_t1_loop.trips) : Memref sig .tc .hbm S2560x256 .i8 :=
  M.slice (Rect.unit (s := S2560x5120) (k0_off5 k) S2560x256.size (k0_off5_inb k)) (fun _ => rfl)
abbrev scaleSlot (M : Memref sig .tc .vmem S20x20x512 .f32) (k : Fin k0_t1_loop.trips) : Memref sig .tc .vmem S20x512 .f32 :=
  (M.slice (Rect.unit (s := S20x20x512) (k0_off2 k) S1x20x512.size (k0_off2_inb k)) (fun _ => rfl)).squeeze S20x512 squeezes_S1x20x512_S20x512
abbrev scaleCols (M : Memref sig .tc .hbm S20x10240 .f32) (k : Fin k0_t1_loop.trips) : Memref sig .tc .hbm S20x512 .f32 :=
  M.slice (Rect.unit (s := S20x10240) (k0_off3 k) S20x512.size (k0_off3_inb k)) (fun _ => rfl)
abbrev cell (a : DmaSems sig S20) (k : Fin k0_t1_loop.trips) : DmaSem sig :=
  ((a.slice (Rect.unit (s := S20) (k0_off1 k) S1.size (k0_off1_inb k))).squeeze S_ squeezes_S1_S_).sem

abbrev EC : UEmb Counters 𝕄 := countersEmb (U := Pipeline.UD sig nD τ)

/-- One trip, over the four pieces it reads. -/
def tripRun (c : Dev nD) (k : Fin k0_t1_loop.trips) (s : Mxu F) (hs : ∀ q r, s.reg q r = none)
    (fl : Bf (F := F) c lhsV) (fgc : Bf (F := F) c gcV) (fuc : Bf (F := F) c ucV) (fgs : Bf (F := F) c gsV) (fus : Bf (F := F) c usV) :
    { R : Mxu F × List (View.Piece (Elt F) S5x10240 .bf16) //
      ∀ (arg1 : Memref sig .tc .smem S1 .f32) (harg1 : arg1.IsWhole)
        (hgc : Bf (F := F) c gcH) (huc : Bf (F := F) c ucH) (hgs : Bf (F := F) c gsH) (hus : Bf (F := F) c usH)
        (x1 : Mxu F) (x2 : IVec S8x128 32) (x3 : IVec S8x128 1) (x4 : FVec F S8x128 .f32) (x5 : IVec S8x128 32)
        (fy : Bf (F := F) c yV) (fgw : Bf (F := F) c gwV) (fuw : Bf (F := F) c uwV) (W : Waits sig Unit) (K : Mxu F → sProp 𝕄),
        iprop((lhsV.view.loc (c : Thread nD τ) ↦{fullShare} fl)
          ∗ (gwV.view.loc (c : Thread nD τ) ↦{fullShare} fgw) ∗ (uwV.view.loc (c : Thread nD τ) ↦{fullShare} fuw)
          ∗ (yV.view.loc (c : Thread nD τ) ↦{fullShare} fy)
          ∗ Transfers.Flight EC (c : Thread nD τ) (.dma (cell cc0_scratch10 k)) () (scaleSlot gsV k).view.dmaCredit iprop(((scaleSlot gsV k).view.loc (c : Thread nD τ) ↦[(scaleSlot gsV k).view.set]{fullShare} fgs) ∗ ((scaleCols gsH k).view.loc (c : Thread nD τ) ↦[(scaleCols gsH k).view.set]{fullShare} hgs))
          ∗ Transfers.Flight EC (c : Thread nD τ) (.dma (cell cc0_scratch11 k)) () (scaleSlot usV k).view.dmaCredit iprop(((scaleSlot usV k).view.loc (c : Thread nD τ) ↦[(scaleSlot usV k).view.set]{fullShare} fus) ∗ ((scaleCols usH k).view.loc (c : Thread nD τ) ↦[(scaleCols usH k).view.set]{fullShare} hus))
          ∗ Transfers.Flight EC (c : Thread nD τ) (.dma (cell cc0_scratch12 k)) () (codeSlot gcV k).view.dmaCredit iprop(((codeSlot gcV k).view.loc (c : Thread nD τ) ↦[(codeSlot gcV k).view.set]{fullShare} fgc) ∗ ((codeCols gcH k).view.loc (c : Thread nD τ) ↦[(codeCols gcH k).view.set]{fullShare} hgc))
          ∗ Transfers.Flight EC (c : Thread nD τ) (.dma (cell cc0_scratch13 k)) () (codeSlot ucV k).view.dmaCredit iprop(((codeSlot ucV k).view.loc (c : Thread nD τ) ↦[(codeSlot ucV k).view.set]{fullShare} fuc) ∗ ((codeCols ucH k).view.loc (c : Thread nD τ) ↦[(codeCols ucH k).view.set]{fullShare} huc))
          ∗ owes (c : Thread nD τ) 0 W
          ∗ (iprop((lhsV.view.loc (c : Thread nD τ) ↦{fullShare} fl)
            ∗ (∃ f, gwV.view.loc (c : Thread nD τ) ↦{fullShare} f) ∗ (∃ f, uwV.view.loc (c : Thread nD τ) ↦{fullShare} f)
            ∗ (yV.view.loc (c : Thread nD τ) ↦{fullShare} yV.view.writes (Elt F) fy R.2)
            ∗ ((scaleSlot gsV k).view.loc (c : Thread nD τ) ↦[(scaleSlot gsV k).view.set]{fullShare} fgs) ∗ ((scaleCols gsH k).view.loc (c : Thread nD τ) ↦[(scaleCols gsH k).view.set]{fullShare} hgs)
            ∗ semVal ((c : Thread nD τ), SemLoc.dma (cell cc0_scratch10 k)) 0
            ∗ ((scaleSlot usV k).view.loc (c : Thread nD τ) ↦[(scaleSlot usV k).view.set]{fullShare} fus) ∗ ((scaleCols usH k).view.loc (c : Thread nD τ) ↦[(scaleCols usH k).view.set]{fullShare} hus)
            ∗ semVal ((c : Thread nD τ), SemLoc.dma (cell cc0_scratch11 k)) 0
            ∗ ((codeSlot gcV k).view.loc (c : Thread nD τ) ↦[(codeSlot gcV k).view.set]{fullShare} fgc) ∗ ((codeCols gcH k).view.loc (c : Thread nD τ) ↦[(codeCols gcH k).view.set]{fullShare} hgc)
            ∗ semVal ((c : Thread nD τ), SemLoc.dma (cell cc0_scratch12 k)) 0
            ∗ ((codeSlot ucV k).view.loc (c : Thread nD τ) ↦[(codeSlot ucV k).view.set]{fullShare} fuc) ∗ ((codeCols ucH k).view.loc (c : Thread nD τ) ↦[(codeCols ucH k).view.set]{fullShare} huc)
            ∗ semVal ((c : Thread nD τ), SemLoc.dma (cell cc0_scratch13 k)) 0
            ∗ (∃ W', owes (c : Thread nD τ) 0 W')) -∗ K R.1))
          ⊢ wp frame (wpE (defs₀ (F := F)) Variants.none c none) Set.univ
              (k0_t1_body xH (Memref.isWhole_whole _) arg1 harg1 gcH (Memref.isWhole_whole _) gsH (Memref.isWhole_whole _) ucH (Memref.isWhole_whole _) usH (Memref.isWhole_whole _) yH (Memref.isWhole_whole _) xV (Memref.isWhole_whole _) gcV (Memref.isWhole_whole _) gsV (Memref.isWhole_whole _) ucV (Memref.isWhole_whole _) usV (Memref.isWhole_whole _) lhsV (Memref.isWhole_whole _) gwV (Memref.isWhole_whole _) uwV (Memref.isWhole_whole _) yV (Memref.isWhole_whole _) cc0_scratch9 cc0_scratch10 cc0_scratch11 cc0_scratch12 cc0_scratch13 cc0_scratch14 x1 x2 x3 x4 x5 k s) K } := by
  refine ⟨⟨?_, ?_⟩, fun arg1 harg1 hgc huc hgs hus x1 x2 x3 x4 x5 fy fgw fuw W K => ?run⟩
  case run =>
    unfold k0_t1_body
    iintro ⟨Hl, Hgw, Huw, Hy, F1, F2, F3, F4, HW, Hk⟩
    sl_exec_parts (disch := first | exact Mxu.pushOk_of_none _ _ _ _ (hs _ _) | (mxu_pushok_peel <;> exact Mxu.pushOk_of_none _ _ _ _ (hs _ _)))
    sl_step
    iapply Hk
    isplitl [Hl]; · iexact Hl
    isplitl [Hgw]; · iexists _; iexact Hgw
    isplitl [Huw]; · iexists _; iexact Huw
    isplitl [Hy]; · iexact Hy
    isplitl [F1_dst]; · iexact F1_dst
    isplitl [F1_src]; · iexact F1_src
    isplitl [F1]; · iexact F1
    isplitl [F2_dst]; · iexact F2_dst
    isplitl [F2_src]; · iexact F2_src
    isplitl [F2]; · iexact F2
    isplitl [F3_dst]; · iexact F3_dst
    isplitl [F3_src]; · iexact F3_src
    isplitl [F3]; · iexact F3
    isplitl [F4_dst]; · iexact F4_dst
    isplitl [F4_src]; · iexact F4_src
    isplitl [F4]; · iexact F4
    iexists _; iexact HW

/-- After a trip every register is empty and no accumulator row is live, as before it. -/
theorem tripState (c : Dev nD) (k : Fin k0_t1_loop.trips) (s : Mxu F) (hs : ∀ q r, s.reg q r = none) (hl : ∀ q R, ¬ s.live q R = true)
    (fl : Bf (F := F) c lhsV) (fgc : Bf (F := F) c gcV) (fuc : Bf (F := F) c ucV) (fgs : Bf (F := F) c gsV) (fus : Bf (F := F) c usV) :
    (∀ q r, (tripRun c k s hs fl fgc fuc fgs fus).1.1.reg q r = none) ∧ (∀ q R, ¬ (tripRun c k s hs fl fgc fuc fgs fus).1.1.live q R = true) := by
  have h0 : ∀ R, s.live 0 R = true → R.val < 0 := fun R h => absurd h (hl 0 R)
  have h1 : ∀ R, s.live 1 R = true → R.val < 0 := fun R h => absurd h (hl 1 R)
  unfold tripRun
  dsimp only
  mxu_walk h0 as w0
  mxu_walk h1 as w1
  refine ⟨fun q r => ?_, fun q R => ?_⟩
  · match q, r with
    | 0, 0 => exact w0.reg0_empty rfl
    | 0, 1 => exact w0.reg1_empty rfl
    | 1, 0 => exact w1.reg0_empty rfl
    | 1, 1 => exact w1.reg1_empty rfl
  · match q with
    | 0 => exact w0.none_live rfl R
    | 1 => exact w1.none_live rfl R

end Cert.KernelIdeal.Hand

end
-- ==== Proof.Ideal.Streams.lean ====
module

public import proofs.«01_k».proof.Proof.Gen.KernelIdeal.Frame
public import proofs.«01_k».proof.Proof.Gen.KernelIdeal.Skeleton
public import proofs.«01_k».proof.Proof.Ideal.Trip
public import Idealize.ShloMosaic.Lib.Transfers
public import Idealize.ShloMosaic.Lib.Ring
public import Idealize.ShloMosaic.Lib.Mxu.Walk
public import Idealize.ShloMosaic.Lib.Tactic

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

theorem pure_sep {φ : Prop} {P Q : sProp 𝕄} (h : φ → P ⊢ Q) : iprop(⌜φ⌝ ∗ P) ⊢ Q := by
  iintro ⟨%hφ, H⟩; iapply (h hφ); iexact H

/-- A view's elements after writing a payload whole are those of any contents read as that payload. -/
theorem landed_at {sp : Space} {S : Shape} {e : EltTy} (v : View sig .tc sp S e) {f G : v.ty.Contents (Elt F)} {p : S.Idx → Elt F e}
    (h : v.read (Elt F) G = p) {i : v.ty.Idx} (hi : i ∈ v.set) : v.write (Elt F) f p Finset.univ i = G i := by
  subst h
  rw [View.write_read_eq_piecewise]
  exact Finset.piecewise_eq_of_mem _ _ _ (by simpa [View.setOn, View.set] using hi)

/-! ### The copies of the scale blocks -/

section Scale

variable (c : Dev nD) (V : Memref sig .tc .vmem S20x20x512 .f32) (H : Memref sig .tc .hbm S20x10240 .f32) (A : DmaSems sig S20)

/-- Block `k`'s copy not yet started: its semaphore at zero, its slot and its columns. -/
def scalePend (h : Bf (F := F) c H) (k : Fin k0_t1_loop.trips) : sProp 𝕄 :=
  iprop(semVal ((c : Thread nD τ), SemLoc.dma (cell A k)) 0
    ∗ (∃ f, (scaleSlot V k).view.loc (c : Thread nD τ) ↦[(scaleSlot V k).view.set]{fullShare} f)
    ∗ ((scaleCols H k).view.loc (c : Thread nD τ) ↦[(scaleCols H k).view.set]{fullShare} h))

/-- Block `k`'s copy in flight, to deliver the slot at `G`'s contents and the columns back. -/
abbrev scaleFl (G : Bf (F := F) c V) (h : Bf (F := F) c H) (k : Fin k0_t1_loop.trips) : sProp 𝕄 :=
  Transfers.Flight EC (c : Thread nD τ) (.dma (cell A k)) () (scaleSlot V k).view.dmaCredit
    iprop(((scaleSlot V k).view.loc (c : Thread nD τ) ↦[(scaleSlot V k).view.set]{fullShare} G)
      ∗ ((scaleCols H k).view.loc (c : Thread nD τ) ↦[(scaleCols H k).view.set]{fullShare} h))

/-- Block `k`'s copy waited for. -/
def scaleDone (G : Bf (F := F) c V) (h : Bf (F := F) c H) (k : Fin k0_t1_loop.trips) : sProp 𝕄 :=
  iprop(((scaleSlot V k).view.loc (c : Thread nD τ) ↦[(scaleSlot V k).view.set]{fullShare} G)
    ∗ ((scaleCols H k).view.loc (c : Thread nD τ) ↦[(scaleCols H k).view.set]{fullShare} h)
    ∗ semVal ((c : Thread nD τ), SemLoc.dma (cell A k)) 0)

/-- The first `n` copies in flight, the others not yet started. -/
def scaleStarts (G : Bf (F := F) c V) (h : Bf (F := F) c H) (n : ℕ) : sProp 𝕄 :=
  iprop(bigSep (Ring.rangeSet k0_t1_loop.trips n 20) (scalePend c V H A h) ∗ bigSep (Ring.rangeSet k0_t1_loop.trips 0 n) (scaleFl c V H A G h))

/-- `G` holds every block's columns in its slot. -/
def scaleLanded (G : Bf (F := F) c V) (h : Bf (F := F) c H) : Prop :=
  ∀ k, (scaleSlot V k).view.read (Elt F) G = (scaleCols H k).view.read (Elt F) h

theorem scaleFl_of_pend {G : Bf (F := F) c V} {h : Bf (F := F) c H} (hG : scaleLanded c V H G h) (k : Fin k0_t1_loop.trips)
    {β : Type} {Q : β → sProp 𝕄} {κ : PUnit → Prog (TpuEff nD τ sig (Elt F) Λ₀ .tc) β}
    {hsrc} {hdst} {hsem} :
    iprop(scalePend c V H A h k ∗ (scaleFl c V H A G h k -∗ wp frame (wpE (defs₀ (F := F)) Variants.none (c : Thread nD τ) none) Set.univ (κ ⟨⟩) Q))
      ⊢ wp frame (wpE (defs₀ (F := F)) Variants.none (c : Thread nD τ) none) Set.univ
          (.op (.enqueueDma (scaleCols H k) (.here (scaleSlot V k)) (.dma (cell A k)) hsrc hdst hsem) κ) Q := by
  unfold scalePend
  iintro ⟨⟨Hs, ⟨%f, Hd⟩, Hc⟩, Hk⟩
  iapply (Transfers.wp_dmaLocal EC Variants.none (c : Thread nD τ) none () (scaleSlot V k).view.dmaCredit rfl (by show 0 < _; simp [View.dmaCredit]; decide) (Finset.Subset.refl _)) $$ [Hs Hd Hc]
  · isplitl [Hc]; · iexact Hc
    isplitl [Hd]; · iexact Hd
    iexact Hs
  iintro HF
  iapply Hk
  iapply (Transfers.Flight_mono EC (c : Thread nD τ) ?_) $$ HF
  iintro ⟨Hd, Hc⟩
  isplitl [Hd]
  · iapply (Entails.of_eq (pointsTo_congr fun i hi => landed_at _ (hG k) hi)) $$ Hd
  iexact Hc

/-- One start: offsets in literals. -/
theorem scale_start {G : Bf (F := F) c V} {h : Bf (F := F) c H} (hG : scaleLanded c V H G h) {n j : ℕ}
    {β : Type} {Q : β → sProp 𝕄} {κ : PUnit → Prog (TpuEff nD τ sig (Elt F) Λ₀ .tc) β}
    {b1} {b2} {b3} {p2} {p3} {q1} {q2}
    {hsrc} {hdst} {hsem} :
    iprop(⌜n < k0_t1_loop.trips ∧ j = 512 * n⌝ ∗ scaleStarts c V H A G h n ∗ (scaleStarts c V H A G h (n + 1) -∗ wp frame (wpE (defs₀ (F := F)) Variants.none (c : Thread nD τ) none) Set.univ (κ ⟨⟩) Q))
      ⊢ wp frame (wpE (defs₀ (F := F)) Variants.none (c : Thread nD τ) none) Set.univ
          (.op (.enqueueDma (H.slice (Rect.unit (s := S20x10240) ![0, j] S20x512.size b3) p3)
            (.here ((V.slice (Rect.unit (s := S20x20x512) ![n, 0, 0] S1x20x512.size b2) p2).squeeze S20x512 q2))
            (.dma ((A.slice (Rect.unit (s := S20) ![n] S1.size b1)).squeeze S_ q1).sem) hsrc hdst hsem) κ) Q := by
  refine pure_sep fun ⟨hn, hj⟩ => ?_
  subst hj
  have e1 : (![n] : Fin 1 → ℕ) = k0_off1 ⟨n, hn⟩ := (k0_off1_eq ⟨n, hn⟩).symm
  have e2 : (![n, 0, 0] : Fin 3 → ℕ) = k0_off2 ⟨n, hn⟩ := (k0_off2_eq ⟨n, hn⟩).symm
  have e3 : (![0, 512 * n] : Fin 2 → ℕ) = k0_off3 ⟨n, hn⟩ := (k0_off3_eq ⟨n, hn⟩).symm
  revert b1 b2 b3 p2 p3 hsrc hdst hsem
  rw [e1, e2, e3]
  intros
  unfold scaleStarts
  rw [Ring.bigSep_rangeSet_head (lo := n) (hi := 20) (show n < 20 from hn) hn, Ring.bigSep_rangeSet_last (lo := 0) (hi := n + 1) (Nat.succ_pos n) hn]
  iintro ⟨⟨⟨Hp, Hr⟩, Hf⟩, Hk⟩
  iapply (scaleFl_of_pend c V H A hG ⟨n, hn⟩) $$ [Hp Hr Hf Hk]
  isplitl [Hp]; · iexact Hp
  iintro HF
  iapply Hk
  isplitl [Hr]; · iexact Hr
  isplitl [HF]; · iexact HF
  iexact Hf

end Scale

/-! ### The copies of the code blocks -/

section Code

variable (c : Dev nD) (V : Memref sig .tc .vmem S20x2560x256 .i8) (H : Memref sig .tc .hbm S2560x5120 .i8) (A : DmaSems sig S20)

/-- Block `k`'s copy not yet started: its semaphore at zero, its slot and its columns. -/
def codePend (h : Bf (F := F) c H) (k : Fin k0_t1_loop.trips) : sProp 𝕄 :=
  iprop(semVal ((c : Thread nD τ), SemLoc.dma (cell A k)) 0
    ∗ (∃ f, (codeSlot V k).view.loc (c : Thread nD τ) ↦[(codeSlot V k).view.set]{fullShare} f)
    ∗ ((codeCols H k).view.loc (c : Thread nD τ) ↦[(codeCols H k).view.set]{fullShare} h))

/-- Block `k`'s copy in flight, to deliver the slot at `G`'s contents and the columns back. -/
abbrev codeFl (G : Bf (F := F) c V) (h : Bf (F := F) c H) (k : Fin k0_t1_loop.trips) : sProp 𝕄 :=
  Transfers.Flight EC (c : Thread nD τ) (.dma (cell A k)) () (codeSlot V k).view.dmaCredit
    iprop(((codeSlot V k).view.loc (c : Thread nD τ) ↦[(codeSlot V k).view.set]{fullShare} G)
      ∗ ((codeCols H k).view.loc (c : Thread nD τ) ↦[(codeCols H k).view.set]{fullShare} h))

/-- Block `k`'s copy waited for. -/
def codeDone (G : Bf (F := F) c V) (h : Bf (F := F) c H) (k : Fin k0_t1_loop.trips) : sProp 𝕄 :=
  iprop(((codeSlot V k).view.loc (c : Thread nD τ) ↦[(codeSlot V k).view.set]{fullShare} G)
    ∗ ((codeCols H k).view.loc (c : Thread nD τ) ↦[(codeCols H k).view.set]{fullShare} h)
    ∗ semVal ((c : Thread nD τ), SemLoc.dma (cell A k)) 0)

/-- The first `n` copies in flight, the others not yet started. -/
def codeStarts (G : Bf (F := F) c V) (h : Bf (F := F) c H) (n : ℕ) : sProp 𝕄 :=
  iprop(bigSep (Ring.rangeSet k0_t1_loop.trips n 20) (codePend c V H A h) ∗ bigSep (Ring.rangeSet k0_t1_loop.trips 0 n) (codeFl c V H A G h))

/-- `G` holds every block's columns in its slot. -/
def codeLanded (G : Bf (F := F) c V) (h : Bf (F := F) c H) : Prop :=
  ∀ k, (codeSlot V k).view.read (Elt F) G = (codeCols H k).view.read (Elt F) h

theorem codeFl_of_pend {G : Bf (F := F) c V} {h : Bf (F := F) c H} (hG : codeLanded c V H G h) (k : Fin k0_t1_loop.trips)
    {β : Type} {Q : β → sProp 𝕄} {κ : PUnit → Prog (TpuEff nD τ sig (Elt F) Λ₀ .tc) β}
    {hsrc} {hdst} {hsem} :
    iprop(codePend c V H A h k ∗ (codeFl c V H A G h k -∗ wp frame (wpE (defs₀ (F := F)) Variants.none (c : Thread nD τ) none) Set.univ (κ ⟨⟩) Q))
      ⊢ wp frame (wpE (defs₀ (F := F)) Variants.none (c : Thread nD τ) none) Set.univ
          (.op (.enqueueDma (codeCols H k) (.here (codeSlot V k)) (.dma (cell A k)) hsrc hdst hsem) κ) Q := by
  unfold codePend
  iintro ⟨⟨Hs, ⟨%f, Hd⟩, Hc⟩, Hk⟩
  iapply (Transfers.wp_dmaLocal EC Variants.none (c : Thread nD τ) none () (codeSlot V k).view.dmaCredit rfl (by show 0 < _; simp [View.dmaCredit]; decide) (Finset.Subset.refl _)) $$ [Hs Hd Hc]
  · isplitl [Hc]; · iexact Hc
    isplitl [Hd]; · iexact Hd
    iexact Hs
  iintro HF
  iapply Hk
  iapply (Transfers.Flight_mono EC (c : Thread nD τ) ?_) $$ HF
  iintro ⟨Hd, Hc⟩
  isplitl [Hd]
  · iapply (Entails.of_eq (pointsTo_congr fun i hi => landed_at _ (hG k) hi)) $$ Hd
  iexact Hc

/-- One start: offsets in literals. -/
theorem code_start {G : Bf (F := F) c V} {h : Bf (F := F) c H} (hG : codeLanded c V H G h) {n j : ℕ}
    {β : Type} {Q : β → sProp 𝕄} {κ : PUnit → Prog (TpuEff nD τ sig (Elt F) Λ₀ .tc) β}
    {b1} {b2} {b3} {p2} {p3} {q1} {q2}
    {hsrc} {hdst} {hsem} :
    iprop(⌜n < k0_t1_loop.trips ∧ j = 256 * n⌝ ∗ codeStarts c V H A G h n ∗ (codeStarts c V H A G h (n + 1) -∗ wp frame (wpE (defs₀ (F := F)) Variants.none (c : Thread nD τ) none) Set.univ (κ ⟨⟩) Q))
      ⊢ wp frame (wpE (defs₀ (F := F)) Variants.none (c : Thread nD τ) none) Set.univ
          (.op (.enqueueDma (H.slice (Rect.unit (s := S2560x5120) ![0, j] S2560x256.size b3) p3)
            (.here ((V.slice (Rect.unit (s := S20x2560x256) ![n, 0, 0] S1x2560x256.size b2) p2).squeeze S2560x256 q2))
            (.dma ((A.slice (Rect.unit (s := S20) ![n] S1.size b1)).squeeze S_ q1).sem) hsrc hdst hsem) κ) Q := by
  refine pure_sep fun ⟨hn, hj⟩ => ?_
  subst hj
  have e1 : (![n] : Fin 1 → ℕ) = k0_off1 ⟨n, hn⟩ := (k0_off1_eq ⟨n, hn⟩).symm
  have e2 : (![n, 0, 0] : Fin 3 → ℕ) = k0_off4 ⟨n, hn⟩ := (k0_off4_eq ⟨n, hn⟩).symm
  have e3 : (![0, 256 * n] : Fin 2 → ℕ) = k0_off5 ⟨n, hn⟩ := (k0_off5_eq ⟨n, hn⟩).symm
  revert b1 b2 b3 p2 p3 hsrc hdst hsem
  rw [e1, e2, e3]
  intros
  unfold codeStarts
  rw [Ring.bigSep_rangeSet_head (lo := n) (hi := 20) (show n < 20 from hn) hn, Ring.bigSep_rangeSet_last (lo := 0) (hi := n + 1) (Nat.succ_pos n) hn]
  iintro ⟨⟨⟨Hp, Hr⟩, Hf⟩, Hk⟩
  iapply (codeFl_of_pend c V H A hG ⟨n, hn⟩) $$ [Hp Hr Hf Hk]
  isplitl [Hp]; · iexact Hp
  iintro HF
  iapply Hk
  isplitl [Hr]; · iexact Hr
  isplitl [HF]; · iexact HF
  iexact Hf

end Code

end Cert.KernelIdeal.Hand

end
-- ==== Proof.Ideal.Body.lean ====
module

public import proofs.«01_k».proof.Proof.Gen.KernelIdeal.Frame
public import proofs.«01_k».proof.Proof.Gen.KernelIdeal.Skeleton
public import proofs.«01_k».proof.Proof.Ideal.Streams
public import Idealize.ShloMosaic.Lib.Transfers
public import Idealize.ShloMosaic.Lib.Ring
public import Idealize.ShloMosaic.Lib.Mxu.Walk
public import Idealize.ShloMosaic.Lib.Tactic

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

section State

variable (c : Dev nD) (fl : Bf (F := F) c lhsV) (fgc : Bf (F := F) c gcV) (fuc : Bf (F := F) c ucV) (fgs : Bf (F := F) c gsV) (fus : Bf (F := F) c usV)

/-- The matrix unit's state before trip `n`. -/
def st : ℕ → { s : Mxu F // (∀ q r, s.reg q r = none) ∧ ∀ q R, ¬ s.live q R = true }
  | 0 => ⟨Mxu.init, fun _ _ => rfl, fun _ _ => by simp [Mxu.init]⟩
  | n + 1 => if h : n < k0_t1_loop.trips then
      ⟨(tripRun c ⟨n, h⟩ (st n).1 (st n).2.1 fl fgc fuc fgs fus).1.1, tripState c ⟨n, h⟩ (st n).1 (st n).2.1 (st n).2.2 fl fgc fuc fgs fus⟩
    else st n

/-- The result's buffer before trip `n`. -/
def yAt (y0 : Bf (F := F) c yV) : ℕ → Bf (F := F) c yV
  | 0 => y0
  | n + 1 => if h : n < k0_t1_loop.trips then
      yV.view.writes (Elt F) (yAt y0 n) (tripRun c ⟨n, h⟩ (st c fl fgc fuc fgs fus n).1 (st c fl fgc fuc fgs fus n).2.1 fl fgc fuc fgs fus).1.2
    else yAt y0 n

/-- What the loop keeps. -/
def loopInv (hgc : Bf (F := F) c gcH) (hgs : Bf (F := F) c gsH) (huc : Bf (F := F) c ucH) (hus : Bf (F := F) c usH) (y0 : Bf (F := F) c yV)
    (n : ℕ) (s : Mxu F) : sProp 𝕄 :=
  iprop(⌜s = (st c fl fgc fuc fgs fus n).1⌝
    ∗ (lhsV.view.loc (c : Thread nD τ) ↦{fullShare} fl)
    ∗ (∃ f, gwV.view.loc (c : Thread nD τ) ↦{fullShare} f) ∗ (∃ f, uwV.view.loc (c : Thread nD τ) ↦{fullShare} f)
    ∗ (yV.view.loc (c : Thread nD τ) ↦{fullShare} yAt c fl fgc fuc fgs fus y0 n)
    ∗ (bigSep (Ring.rangeSet k0_t1_loop.trips n 20) (scaleFl c gsV gsH cc0_scratch10 fgs hgs) ∗ bigSep (Ring.rangeSet k0_t1_loop.trips 0 n) (scaleDone c gsV gsH cc0_scratch10 fgs hgs))
    ∗ (bigSep (Ring.rangeSet k0_t1_loop.trips n 20) (scaleFl c usV usH cc0_scratch11 fus hus) ∗ bigSep (Ring.rangeSet k0_t1_loop.trips 0 n) (scaleDone c usV usH cc0_scratch11 fus hus))
    ∗ (bigSep (Ring.rangeSet k0_t1_loop.trips n 20) (codeFl c gcV gcH cc0_scratch12 fgc hgc) ∗ bigSep (Ring.rangeSet k0_t1_loop.trips 0 n) (codeDone c gcV gcH cc0_scratch12 fgc hgc))
    ∗ (bigSep (Ring.rangeSet k0_t1_loop.trips n 20) (codeFl c ucV ucH cc0_scratch13 fuc huc) ∗ bigSep (Ring.rangeSet k0_t1_loop.trips 0 n) (codeDone c ucV ucH cc0_scratch13 fuc huc))
    ∗ ∃ W, owes (c : Thread nD τ) 0 W)

/-- One trip takes the loop's invariant to the next. -/
theorem trip_sound (arg1 : Memref sig .tc .smem S1 .f32) (harg1 : arg1.IsWhole)
    (hgc : Bf (F := F) c gcH) (hgs : Bf (F := F) c gsH) (huc : Bf (F := F) c ucH) (hus : Bf (F := F) c usH) (y0 : Bf (F := F) c yV)
    (x1 : Mxu F) (x2 : IVec S8x128 32) (x3 : IVec S8x128 1) (x4 : FVec F S8x128 .f32) (x5 : IVec S8x128 32)
    (k : Fin k0_t1_loop.trips) (s : Mxu F) :
    loopInv c fl fgc fuc fgs fus hgc hgs huc hus y0 k s
      ⊢ wp frame (wpE (defs₀ (F := F)) Variants.none c none) Set.univ
          (k0_t1_body xH (Memref.isWhole_whole _) arg1 harg1 gcH (Memref.isWhole_whole _) gsH (Memref.isWhole_whole _) ucH (Memref.isWhole_whole _) usH (Memref.isWhole_whole _) yH (Memref.isWhole_whole _) xV (Memref.isWhole_whole _) gcV (Memref.isWhole_whole _) gsV (Memref.isWhole_whole _) ucV (Memref.isWhole_whole _) usV (Memref.isWhole_whole _) lhsV (Memref.isWhole_whole _) gwV (Memref.isWhole_whole _) uwV (Memref.isWhole_whole _) yV (Memref.isWhole_whole _) cc0_scratch9 cc0_scratch10 cc0_scratch11 cc0_scratch12 cc0_scratch13 cc0_scratch14 x1 x2 x3 x4 x5 k s) (loopInv c fl fgc fuc fgs fus hgc hgs huc hus y0 (k.val + 1)) := by
  unfold loopInv
  iintro ⟨%hs, Hl, ⟨%fgw, Hgw⟩, ⟨%fuw, Huw⟩, Hy, ⟨A1, D1⟩, ⟨A2, D2⟩, ⟨A3, D3⟩, ⟨A4, D4⟩, ⟨%W, HW⟩⟩
  subst hs
  simp only [Ring.bigSep_rangeSet_head (lo := k.val) (hi := 20) k.isLt k.isLt, Ring.bigSep_rangeSet_last (lo := 0) (hi := k.val + 1) (Nat.succ_pos _) k.isLt]
  icases A1 with ⟨F1, A1⟩
  icases A2 with ⟨F2, A2⟩
  icases A3 with ⟨F3, A3⟩
  icases A4 with ⟨F4, A4⟩
  iapply (tripRun c k (st c fl fgc fuc fgs fus k).1 (st c fl fgc fuc fgs fus k).2.1 fl fgc fuc fgs fus).2 arg1 harg1 hgc huc hgs hus x1 x2 x3 x4 x5 (yAt c fl fgc fuc fgs fus y0 k) fgw fuw W
  isplitl [Hl]; · iexact Hl
  isplitl [Hgw]; · iexact Hgw
  isplitl [Huw]; · iexact Huw
  isplitl [Hy]; · iexact Hy
  isplitl [F1]; · iexact F1
  isplitl [F2]; · iexact F2
  isplitl [F3]; · iexact F3
  isplitl [F4]; · iexact F4
  isplitl [HW]; · iexact HW
  iintro ⟨Hl, Hgw, Huw, Hy, F1d, F1s, F1, F2d, F2s, F2, F3d, F3s, F3, F4d, F4s, F4, HW⟩
  isplitr; · ipureintro; rw [st, dif_pos k.isLt]
  isplitl [Hl]; · iexact Hl
  isplitl [Hgw]; · iexact Hgw
  isplitl [Huw]; · iexact Huw
  isplitl [Hy]; · rw [yAt, dif_pos k.isLt]; iexact Hy
  isplitl [A1 D1 F1d F1s F1]
  · isplitl [A1]; · iexact A1
    isplitr [D1]
    · unfold scaleDone; isplitl [F1d]; · iexact F1d
      isplitl [F1s]; · iexact F1s
      iexact F1
    · iexact D1
  isplitl [A2 D2 F2d F2s F2]
  · isplitl [A2]; · iexact A2
    isplitr [D2]
    · unfold scaleDone; isplitl [F2d]; · iexact F2d
      isplitl [F2s]; · iexact F2s
      iexact F2
    · iexact D2
  isplitl [A3 D3 F3d F3s F3]
  · isplitl [A3]; · iexact A3
    isplitr [D3]
    · unfold codeDone; isplitl [F3d]; · iexact F3d
      isplitl [F3s]; · iexact F3s
      iexact F3
    · iexact D3
  isplitl [A4 D4 F4d F4s F4]
  · isplitl [A4]; · iexact A4
    isplitr [D4]
    · unfold codeDone; isplitl [F4d]; · iexact F4d
      isplitl [F4s]; · iexact F4s
      iexact F4
    · iexact D4
  iexact HW

end State

/-- The body from its arrays, its threshold and its scratch buffers: what the expanded operand and the result hold. -/
def bodyRun (c : Dev nD) (arg1 : Memref sig .tc .smem S1 .f32)
    (ft : Bf (F := F) c arg1) (fx : Bf (F := F) c xH) (x0 : Bf (F := F) c xV)
    (Ggc : Bf (F := F) c gcV) (Ggs : Bf (F := F) c gsV) (Guc : Bf (F := F) c ucV) (Gus : Bf (F := F) c usV) (y0 : Bf (F := F) c yV) (z0 : Bf (F := F) c yH) :
    { R : Bf (F := F) c lhsV × Bf (F := F) c yH // ∀ (harg1 : arg1.IsWhole)
    (fgc : Bf (F := F) c gcH) (fgs : Bf (F := F) c gsH) (fuc : Bf (F := F) c ucH) (fus : Bf (F := F) c usH)
    (hgc : codeLanded c gcV gcH Ggc fgc) (hgs : scaleLanded c gsV gsH Ggs fgs) (huc : codeLanded c ucV ucH Guc fuc) (hus : scaleLanded c usV usH Gus fus)
    (l0 : Bf (F := F) c lhsV) (w0 : Bf (F := F) c gwV) (w1 : Bf (F := F) c uwV)
    (W : Waits sig Unit) (K : PUnit → sProp 𝕄),
    iprop((arg1.view.loc (c : Thread nD τ) ↦[arg1.view.set]{fullShare} ft) ∗ (xH.view.loc (c : Thread nD τ) ↦{fullShare} fx)
      ∗ (yH.view.loc (c : Thread nD τ) ↦{fullShare} z0)
      ∗ (xV.view.loc (c : Thread nD τ) ↦{fullShare} x0)
      ∗ codeStarts c gcV gcH cc0_scratch12 Ggc fgc 0 ∗ scaleStarts c gsV gsH cc0_scratch10 Ggs fgs 0
      ∗ codeStarts c ucV ucH cc0_scratch13 Guc fuc 0 ∗ scaleStarts c usV usH cc0_scratch11 Gus fus 0
      ∗ (lhsV.view.loc (c : Thread nD τ) ↦{fullShare} l0) ∗ (gwV.view.loc (c : Thread nD τ) ↦{fullShare} w0)
      ∗ (uwV.view.loc (c : Thread nD τ) ↦{fullShare} w1) ∗ (yV.view.loc (c : Thread nD τ) ↦{fullShare} y0)
      ∗ semVal ((c : Thread nD τ), SemLoc.dma cc0_scratch9.sem) 0 ∗ semVal ((c : Thread nD τ), SemLoc.dma cc0_scratch14.sem) 0
      ∗ owes (c : Thread nD τ) 0 W
      ∗ (iprop((arg1.view.loc (c : Thread nD τ) ↦[arg1.view.set]{fullShare} ft) ∗ (xH.view.loc (c : Thread nD τ) ↦{fullShare} fx)
        ∗ (yH.view.loc (c : Thread nD τ) ↦{fullShare} R.2)
        ∗ (∃ f, xV.view.loc (c : Thread nD τ) ↦{fullShare} f)
        ∗ bigSep (Ring.rangeSet k0_t1_loop.trips 0 20) (codeDone c gcV gcH cc0_scratch12 Ggc fgc) ∗ bigSep (Ring.rangeSet k0_t1_loop.trips 0 20) (scaleDone c gsV gsH cc0_scratch10 Ggs fgs)
        ∗ bigSep (Ring.rangeSet k0_t1_loop.trips 0 20) (codeDone c ucV ucH cc0_scratch13 Guc fuc) ∗ bigSep (Ring.rangeSet k0_t1_loop.trips 0 20) (scaleDone c usV usH cc0_scratch11 Gus fus)
        ∗ (∃ f, lhsV.view.loc (c : Thread nD τ) ↦{fullShare} f) ∗ (∃ f, gwV.view.loc (c : Thread nD τ) ↦{fullShare} f)
        ∗ (∃ f, uwV.view.loc (c : Thread nD τ) ↦{fullShare} f) ∗ (∃ f, yV.view.loc (c : Thread nD τ) ↦{fullShare} f)
        ∗ semVal ((c : Thread nD τ), SemLoc.dma cc0_scratch9.sem) 0 ∗ semVal ((c : Thread nD τ), SemLoc.dma cc0_scratch14.sem) 0
        ∗ ∃ W', owes (c : Thread nD τ) 0 W') -∗ K ⟨⟩))
    ⊢ wp frame (wpE (defs₀ (F := F)) Variants.none c none) Set.univ
        (cc0_teal_int4_gate_up xH (Memref.isWhole_whole _) arg1 harg1 gcH (Memref.isWhole_whole _) gsH (Memref.isWhole_whole _) ucH (Memref.isWhole_whole _) usH (Memref.isWhole_whole _) yH (Memref.isWhole_whole _) xV (Memref.isWhole_whole _) gcV (Memref.isWhole_whole _) gsV (Memref.isWhole_whole _) ucV (Memref.isWhole_whole _) usV (Memref.isWhole_whole _) lhsV (Memref.isWhole_whole _) gwV (Memref.isWhole_whole _) uwV (Memref.isWhole_whole _) yV (Memref.isWhole_whole _) cc0_scratch9 cc0_scratch10 cc0_scratch11 cc0_scratch12 cc0_scratch13 cc0_scratch14) K } := by
  refine ⟨⟨?fl, ?yf⟩, fun harg1 fgc fgs fuc fus hgc hgs huc hus l0 w0 w1 W K => ?run⟩
  case run =>
  iintro ⟨Ht, Hx, Hyh, Hxv, Hgc, Hgs, Huc, Hus, Hl, Hgw, Huw, Hy, Q1, Q2, HW, Hk⟩
  sl_exec_parts
  iterate 20
    iapply (scale_start c gsV gsH cc0_scratch10 hgs)
    isplitr; · ipureintro; decide
    isplitl [Hgs]; · iexact Hgs
    iintro Hgs
    sl_exec_parts
    iapply (scale_start c usV usH cc0_scratch11 hus)
    isplitr; · ipureintro; decide
    isplitl [Hus]; · iexact Hus
    iintro Hus
    sl_exec_parts
    iapply (code_start c gcV gcH cc0_scratch12 hgc)
    isplitr; · ipureintro; decide
    isplitl [Hgc]; · iexact Hgc
    iintro Hgc
    sl_exec_parts
    iapply (code_start c ucV ucH cc0_scratch13 huc)
    isplitr; · ipureintro; decide
    isplitl [Huc]; · iexact Huc
    iintro Huc
    sl_exec_parts
  ihave Hl := (show (lhsV.view.loc (c : Thread nD τ) ↦{fullShare} _ : sProp 𝕄) ⊢ lhsV.view.loc (c : Thread nD τ) ↦{fullShare} ?fl from Entails.rfl) $$ Hl
  unfold scaleStarts codeStarts
  icases Hgs with ⟨-, Hgs⟩
  icases Hus with ⟨-, Hus⟩
  icases Hgc with ⟨-, Hgc⟩
  icases Huc with ⟨-, Huc⟩
  sl_for (loopInv c ?fl Ggc Guc Ggs Gus fgc fgs fuc fus y0) $$ [Ht Hx Hxv Hyh Q1 Q2 Hk Hl Hgw Huw Hy Hgs Hus Hgc Huc HW]
  · exact fun k s => trip_sound c _ Ggc Guc Ggs Gus arg1 harg1 fgc fgs fuc fus y0 _ _ _ _ _ k s
  isplitl [Hl Hgw Huw Hy Hgs Hus Hgc Huc HW]
  · unfold loopInv
    isplitr; · ipureintro; rfl
    isplitl [Hl]; · iexact Hl
    isplitl [Hgw]; · iexists _; iexact Hgw
    isplitl [Huw]; · iexists _; iexact Huw
    isplitl [Hy]; · iexact Hy
    isplitl [Hgs]
    · isplitl [Hgs]; · iexact Hgs
      irw [Ring.bigSep_rangeSet_empty (lo := 0) (hi := 0) (Nat.le_refl 0)]; iempintro
    isplitl [Hus]
    · isplitl [Hus]; · iexact Hus
      irw [Ring.bigSep_rangeSet_empty (lo := 0) (hi := 0) (Nat.le_refl 0)]; iempintro
    isplitl [Hgc]
    · isplitl [Hgc]; · iexact Hgc
      irw [Ring.bigSep_rangeSet_empty (lo := 0) (hi := 0) (Nat.le_refl 0)]; iempintro
    isplitl [Huc]
    · isplitl [Huc]; · iexact Huc
      irw [Ring.bigSep_rangeSet_empty (lo := 0) (hi := 0) (Nat.le_refl 0)]; iempintro
    iexists _; iexact HW
  iintro %s H
  unfold loopInv
  icases H with ⟨%hs, Hl, ⟨%fgw, Hgw⟩, ⟨%fuw, Huw⟩, Hy, ⟨-, Hgs⟩, ⟨-, Hus⟩, ⟨-, Hgc⟩, ⟨-, Huc⟩, ⟨%W2, HW⟩⟩
  have hd : s.Drained := by
    subst hs
    exact ⟨fun q r => by rw [(st c _ Ggc Guc Ggs Gus _).2.1 q r]; rfl, fun q R => Bool.eq_false_iff.mpr ((st c _ Ggc Guc Ggs Gus _).2.2 q R)⟩
  sl_exec_parts
  sl_step
  iapply Hk
  isplitl [Ht]; · iexact Ht
  isplitl [Hx]; · iexact Hx
  isplitl [Hyh]; · iexact Hyh
  isplitl [Hxv]; · iexists _; iexact Hxv
  isplitl [Hgc]; · iexact Hgc
  isplitl [Hgs]; · iexact Hgs
  isplitl [Huc]; · iexact Huc
  isplitl [Hus]; · iexact Hus
  isplitl [Hl]; · iexists _; iexact Hl
  isplitl [Hgw]; · iexists _; iexact Hgw
  isplitl [Huw]; · iexists _; iexact Huw
  isplitl [Hy]; · iexists _; iexact Hy
  isplitl [Q1]; · iexact Q1
  isplitl [Q2]; · iexact Q2
  iexists _; iexact HW

end Cert.KernelIdeal.Hand

end
-- ==== Proof.Ideal.Pieces.lean ====
module

public import proofs.«01_k».proof.Proof.Gen.KernelIdeal.Frame
public import proofs.«01_k».proof.Proof.Gen.KernelIdeal.Skeleton
public import proofs.«01_k».proof.Proof.Ideal.Body
public import Idealize.ShloMosaic.Lib.Transfers
public import Idealize.ShloMosaic.Lib.Ring
public import Idealize.ShloMosaic.Lib.Mxu.Walk
public import Idealize.ShloMosaic.Lib.ValueLayout
public import Idealize.ShloMosaic.Lib.Tactic

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig Unit (Elt F) ℕ (Pipeline.UD sig nD τ) ℕ

/-! ### The scale blocks cut and joined -/

section Scale

variable (c : Dev nD) (V : Memref sig .tc .vmem S20x20x512 .f32) (H : Memref sig .tc .hbm S20x10240 .f32) (A : DmaSems sig S20)

/-- Block `k`'s elements of the two buffers. -/
abbrev scaleSlotSet (k : Fin k0_t1_loop.trips) : Finset V.view.ty.Idx := (scaleSlot V k).view.set
abbrev scaleColsSet (k : Fin k0_t1_loop.trips) : Finset H.view.ty.Idx := (scaleCols H k).view.set

/-- Different blocks share no element, and together they are the buffers. -/
def scaleCut : Prop :=
  ((∀ k k', k ≠ k' → Disjoint (scaleSlotSet V k) (scaleSlotSet V k')) ∧ Finset.univ.biUnion (scaleSlotSet V) = Finset.univ)
  ∧ (∀ k k', k ≠ k' → Disjoint (scaleColsSet H k) (scaleColsSet H k')) ∧ Finset.univ.biUnion (scaleColsSet H) = Finset.univ

/-- The whole buffers and the twenty semaphores are the twenty copies not yet started. -/
theorem scaleStarts_of (hcut : scaleCut V H) (f : Bf (F := F) c V) (h : Bf (F := F) c H) (G : Bf (F := F) c V) :
    iprop((V.view.loc (c : Thread nD τ) ↦{fullShare} f) ∗ (H.view.loc (c : Thread nD τ) ↦{fullShare} h)
        ∗ bigSep Finset.univ (fun k : Fin k0_t1_loop.trips => semVal ((c : Thread nD τ), SemLoc.dma (cell A k)) 0))
      ⊢ (scaleStarts c V H A G h 0 : sProp 𝕄) := by
  have hm : (bigSep Finset.univ (fun k : Fin k0_t1_loop.trips => V.view.loc (c : Thread nD τ) ↦[scaleSlotSet V k]{fullShare} f) : sProp 𝕄)
      ⊢ bigSep Finset.univ (fun k : Fin k0_t1_loop.trips => iprop(∃ f, (scaleSlot V k).view.loc (c : Thread nD τ) ↦[(scaleSlot V k).view.set]{fullShare} f)) :=
    BI.bigSep_mono fun k _ => show (V.view.loc (c : Thread nD τ) ↦[scaleSlotSet V k]{fullShare} f : sProp 𝕄) ⊢ iprop(∃ f, (scaleSlot V k).view.loc (c : Thread nD τ) ↦[(scaleSlot V k).view.set]{fullShare} f) from by
      iintro H; iexists f; iexact H
  unfold scaleStarts
  rw [Ring.bigSep_rangeSet_empty (lo := 0) (hi := 0) (Nat.le_refl 0), show Ring.rangeSet k0_t1_loop.trips 0 20 = Finset.univ from by decide]
  unfold scalePend
  rw [bigSep_sep', bigSep_sep', Ring.pointsTo_blocks (ℓ := V.view.loc (c : Thread nD τ)) (scaleSlotSet V) hcut.1.1 hcut.1.2 f,
    Ring.pointsTo_blocks (ℓ := H.view.loc (c : Thread nD τ)) (scaleColsSet H) hcut.2.1 hcut.2.2 h]
  iintro ⟨HV, HH, HS⟩
  isplitl
  · isplitl [HS]; · iexact HS
    isplitl [HV]
    · iapply hm $$ HV
    iexact HH
  iempintro

/-- The twenty copies waited for are the whole buffers and the twenty semaphores. -/
theorem scaleDone_join (hcut : scaleCut V H) (h : Bf (F := F) c H) (G : Bf (F := F) c V) :
    (bigSep (Ring.rangeSet k0_t1_loop.trips 0 20) (scaleDone c V H A G h) : sProp 𝕄)
      ⊢ iprop((V.view.loc (c : Thread nD τ) ↦{fullShare} G) ∗ (H.view.loc (c : Thread nD τ) ↦{fullShare} h)
        ∗ bigSep Finset.univ (fun k : Fin k0_t1_loop.trips => semVal ((c : Thread nD τ), SemLoc.dma (cell A k)) 0)) := by
  rw [show Ring.rangeSet k0_t1_loop.trips 0 20 = Finset.univ from by decide]
  unfold scaleDone
  rw [bigSep_sep', bigSep_sep', Ring.pointsTo_blocks (ℓ := V.view.loc (c : Thread nD τ)) (scaleSlotSet V) hcut.1.1 hcut.1.2 G,
    Ring.pointsTo_blocks (ℓ := H.view.loc (c : Thread nD τ)) (scaleColsSet H) hcut.2.1 hcut.2.2 h]

end Scale

theorem gsCut : scaleCut gsV gsH := by
  have e1 : (scaleSlotSet gsV) = fun k => (Rect.unit (s := S20x20x512) (k0_off2 k) S1x20x512.size (k0_off2_inb k)).set := funext fun k =>
    (View.set_reshape _ _).trans (View.set_slice_whole _ _)
  have e2 : (scaleColsSet gsH) = fun k => (Rect.unit (s := S20x10240) (k0_off3 k) S20x512.size (k0_off3_inb k)).set := funext fun k =>
    View.set_slice_whole _ _
  unfold scaleCut
  rw [e1, e2]
  refine ⟨⟨?_, ?_⟩, ?_, ?_⟩
  · exact Ring.lead_disjoint (s := S20x20x512) 0 1 k0_off2 S1x20x512.size k0_off2_inb (fun k => by rw [k0_off2_eq]; exact (Nat.one_mul _).symm) rfl
  · exact Ring.lead_cover (s := S20x20x512) 0 1 k0_off2 S1x20x512.size k0_off2_inb (fun k => by rw [k0_off2_eq]; exact (Nat.one_mul _).symm)
      (fun k a ha => by rw [k0_off2_eq]; revert ha; fin_cases a <;> simp) rfl (fun a ha => by revert ha; fin_cases a <;> simp) (by decide)
  · exact Ring.lead_disjoint (s := S20x10240) 1 512 k0_off3 S20x512.size k0_off3_inb (fun k => by rw [k0_off3_eq]; rfl) rfl
  · exact Ring.lead_cover (s := S20x10240) 1 512 k0_off3 S20x512.size k0_off3_inb (fun k => by rw [k0_off3_eq]; rfl)
      (fun k a ha => by rw [k0_off3_eq]; revert ha; fin_cases a <;> simp) rfl (fun a ha => by revert ha; fin_cases a <;> simp) (by decide)

theorem usCut : scaleCut usV usH := by
  have e1 : (scaleSlotSet usV) = fun k => (Rect.unit (s := S20x20x512) (k0_off2 k) S1x20x512.size (k0_off2_inb k)).set := funext fun k =>
    (View.set_reshape _ _).trans (View.set_slice_whole _ _)
  have e2 : (scaleColsSet usH) = fun k => (Rect.unit (s := S20x10240) (k0_off3 k) S20x512.size (k0_off3_inb k)).set := funext fun k =>
    View.set_slice_whole _ _
  unfold scaleCut
  rw [e1, e2]
  refine ⟨⟨?_, ?_⟩, ?_, ?_⟩
  · exact Ring.lead_disjoint (s := S20x20x512) 0 1 k0_off2 S1x20x512.size k0_off2_inb (fun k => by rw [k0_off2_eq]; exact (Nat.one_mul _).symm) rfl
  · exact Ring.lead_cover (s := S20x20x512) 0 1 k0_off2 S1x20x512.size k0_off2_inb (fun k => by rw [k0_off2_eq]; exact (Nat.one_mul _).symm)
      (fun k a ha => by rw [k0_off2_eq]; revert ha; fin_cases a <;> simp) rfl (fun a ha => by revert ha; fin_cases a <;> simp) (by decide)
  · exact Ring.lead_disjoint (s := S20x10240) 1 512 k0_off3 S20x512.size k0_off3_inb (fun k => by rw [k0_off3_eq]; rfl) rfl
  · exact Ring.lead_cover (s := S20x10240) 1 512 k0_off3 S20x512.size k0_off3_inb (fun k => by rw [k0_off3_eq]; rfl)
      (fun k a ha => by rw [k0_off3_eq]; revert ha; fin_cases a <;> simp) rfl (fun a ha => by revert ha; fin_cases a <;> simp) (by decide)

/-- Block by block, a scale array's columns. -/
def scaleBlocks (h : S20x10240.Idx → Elt F .f32) : S20x20x512.Idx → Elt F .f32 := fun i =>
  h (ix2 (i 1) ⟨512 * (i 0).val + (i 2).val, by have h0 := (i 0).isLt; have h2 := (i 2).isLt; have e0 : S20x20x512.size 0 = 20 := rfl; have e2 : S20x20x512.size 2 = 512 := rfl; have e3 : S20x10240.size 1 = 10240 := rfl; show _ < 10240; omega⟩)

theorem gsLanded (c : Dev nD) (h : Bf (F := F) c gsH) : scaleLanded c gsV gsH (scaleBlocks h) h := by
  intro k
  funext i
  obtain ⟨r, l, rfl⟩ : ∃ (r : Fin 20) (l : Fin 512), i = ix2 r l := ⟨i 0, i 1, funext fun a => by fin_cases a <;> rfl⟩
  show scaleBlocks h ((Rect.unit (s := S20x20x512) (k0_off2 k) S1x20x512.size (k0_off2_inb k)).emb (Shape.reshapeEquiv _ (ix2 r l)))
    = h ((Rect.unit (s := S20x10240) (k0_off3 k) S20x512.size (k0_off3_inb k)).emb (ix2 r l))
  rw [reshapeEquiv_ix2_1ab]
  unfold scaleBlocks
  refine congrArg h (funext fun a => Fin.ext ?_)
  have e1 := k0_off2_eq k
  have e2 := k0_off3_eq k
  fin_cases a
  · show k0_off2 k 1 + 1 * r.val = k0_off3 k 0 + 1 * r.val
    rw [e1, e2]; rfl
  · show 512 * (k0_off2 k 0 + 1 * 0) + (k0_off2 k 2 + 1 * l.val) = k0_off3 k 1 + 1 * l.val
    rw [e1, e2]
    show 512 * (k.val + 1 * 0) + (0 + 1 * l.val) = 512 * k.val + 1 * l.val
    omega

theorem usLanded (c : Dev nD) (h : Bf (F := F) c usH) : scaleLanded c usV usH (scaleBlocks h) h := by
  intro k
  funext i
  obtain ⟨r, l, rfl⟩ : ∃ (r : Fin 20) (l : Fin 512), i = ix2 r l := ⟨i 0, i 1, funext fun a => by fin_cases a <;> rfl⟩
  show scaleBlocks h ((Rect.unit (s := S20x20x512) (k0_off2 k) S1x20x512.size (k0_off2_inb k)).emb (Shape.reshapeEquiv _ (ix2 r l)))
    = h ((Rect.unit (s := S20x10240) (k0_off3 k) S20x512.size (k0_off3_inb k)).emb (ix2 r l))
  rw [reshapeEquiv_ix2_1ab]
  unfold scaleBlocks
  refine congrArg h (funext fun a => Fin.ext ?_)
  have e1 := k0_off2_eq k
  have e2 := k0_off3_eq k
  fin_cases a
  · show k0_off2 k 1 + 1 * r.val = k0_off3 k 0 + 1 * r.val
    rw [e1, e2]; rfl
  · show 512 * (k0_off2 k 0 + 1 * 0) + (k0_off2 k 2 + 1 * l.val) = k0_off3 k 1 + 1 * l.val
    rw [e1, e2]
    show 512 * (k.val + 1 * 0) + (0 + 1 * l.val) = 512 * k.val + 1 * l.val
    omega

/-! ### The code blocks cut and joined -/

section Code

variable (c : Dev nD) (V : Memref sig .tc .vmem S20x2560x256 .i8) (H : Memref sig .tc .hbm S2560x5120 .i8) (A : DmaSems sig S20)

/-- Block `k`'s elements of the two buffers. -/
abbrev codeSlotSet (k : Fin k0_t1_loop.trips) : Finset V.view.ty.Idx := (codeSlot V k).view.set
abbrev codeColsSet (k : Fin k0_t1_loop.trips) : Finset H.view.ty.Idx := (codeCols H k).view.set

/-- Different blocks share no element, and together they are the buffers. -/
def codeCut : Prop :=
  ((∀ k k', k ≠ k' → Disjoint (codeSlotSet V k) (codeSlotSet V k')) ∧ Finset.univ.biUnion (codeSlotSet V) = Finset.univ)
  ∧ (∀ k k', k ≠ k' → Disjoint (codeColsSet H k) (codeColsSet H k')) ∧ Finset.univ.biUnion (codeColsSet H) = Finset.univ

/-- The whole buffers and the twenty semaphores are the twenty copies not yet started. -/
theorem codeStarts_of (hcut : codeCut V H) (f : Bf (F := F) c V) (h : Bf (F := F) c H) (G : Bf (F := F) c V) :
    iprop((V.view.loc (c : Thread nD τ) ↦{fullShare} f) ∗ (H.view.loc (c : Thread nD τ) ↦{fullShare} h)
        ∗ bigSep Finset.univ (fun k : Fin k0_t1_loop.trips => semVal ((c : Thread nD τ), SemLoc.dma (cell A k)) 0))
      ⊢ (codeStarts c V H A G h 0 : sProp 𝕄) := by
  have hm : (bigSep Finset.univ (fun k : Fin k0_t1_loop.trips => V.view.loc (c : Thread nD τ) ↦[codeSlotSet V k]{fullShare} f) : sProp 𝕄)
      ⊢ bigSep Finset.univ (fun k : Fin k0_t1_loop.trips => iprop(∃ f, (codeSlot V k).view.loc (c : Thread nD τ) ↦[(codeSlot V k).view.set]{fullShare} f)) :=
    BI.bigSep_mono fun k _ => show (V.view.loc (c : Thread nD τ) ↦[codeSlotSet V k]{fullShare} f : sProp 𝕄) ⊢ iprop(∃ f, (codeSlot V k).view.loc (c : Thread nD τ) ↦[(codeSlot V k).view.set]{fullShare} f) from by
      iintro H; iexists f; iexact H
  unfold codeStarts
  rw [Ring.bigSep_rangeSet_empty (lo := 0) (hi := 0) (Nat.le_refl 0), show Ring.rangeSet k0_t1_loop.trips 0 20 = Finset.univ from by decide]
  unfold codePend
  rw [bigSep_sep', bigSep_sep', Ring.pointsTo_blocks (ℓ := V.view.loc (c : Thread nD τ)) (codeSlotSet V) hcut.1.1 hcut.1.2 f,
    Ring.pointsTo_blocks (ℓ := H.view.loc (c : Thread nD τ)) (codeColsSet H) hcut.2.1 hcut.2.2 h]
  iintro ⟨HV, HH, HS⟩
  isplitl
  · isplitl [HS]; · iexact HS
    isplitl [HV]
    · iapply hm $$ HV
    iexact HH
  iempintro

/-- The twenty copies waited for are the whole buffers and the twenty semaphores. -/
theorem codeDone_join (hcut : codeCut V H) (h : Bf (F := F) c H) (G : Bf (F := F) c V) :
    (bigSep (Ring.rangeSet k0_t1_loop.trips 0 20) (codeDone c V H A G h) : sProp 𝕄)
      ⊢ iprop((V.view.loc (c : Thread nD τ) ↦{fullShare} G) ∗ (H.view.loc (c : Thread nD τ) ↦{fullShare} h)
        ∗ bigSep Finset.univ (fun k : Fin k0_t1_loop.trips => semVal ((c : Thread nD τ), SemLoc.dma (cell A k)) 0)) := by
  rw [show Ring.rangeSet k0_t1_loop.trips 0 20 = Finset.univ from by decide]
  unfold codeDone
  rw [bigSep_sep', bigSep_sep', Ring.pointsTo_blocks (ℓ := V.view.loc (c : Thread nD τ)) (codeSlotSet V) hcut.1.1 hcut.1.2 G,
    Ring.pointsTo_blocks (ℓ := H.view.loc (c : Thread nD τ)) (codeColsSet H) hcut.2.1 hcut.2.2 h]

end Code

theorem gcCut : codeCut gcV gcH := by
  have e1 : (codeSlotSet gcV) = fun k => (Rect.unit (s := S20x2560x256) (k0_off4 k) S1x2560x256.size (k0_off4_inb k)).set := funext fun k =>
    (View.set_reshape _ _).trans (View.set_slice_whole _ _)
  have e2 : (codeColsSet gcH) = fun k => (Rect.unit (s := S2560x5120) (k0_off5 k) S2560x256.size (k0_off5_inb k)).set := funext fun k =>
    View.set_slice_whole _ _
  unfold codeCut
  rw [e1, e2]
  refine ⟨⟨?_, ?_⟩, ?_, ?_⟩
  · exact Ring.lead_disjoint (s := S20x2560x256) 0 1 k0_off4 S1x2560x256.size k0_off4_inb (fun k => by rw [k0_off4_eq]; exact (Nat.one_mul _).symm) rfl
  · exact Ring.lead_cover (s := S20x2560x256) 0 1 k0_off4 S1x2560x256.size k0_off4_inb (fun k => by rw [k0_off4_eq]; exact (Nat.one_mul _).symm)
      (fun k a ha => by rw [k0_off4_eq]; revert ha; fin_cases a <;> simp) rfl (fun a ha => by revert ha; fin_cases a <;> simp) (by decide)
  · exact Ring.lead_disjoint (s := S2560x5120) 1 256 k0_off5 S2560x256.size k0_off5_inb (fun k => by rw [k0_off5_eq]; rfl) rfl
  · exact Ring.lead_cover (s := S2560x5120) 1 256 k0_off5 S2560x256.size k0_off5_inb (fun k => by rw [k0_off5_eq]; rfl)
      (fun k a ha => by rw [k0_off5_eq]; revert ha; fin_cases a <;> simp) rfl (fun a ha => by revert ha; fin_cases a <;> simp) (by decide)

theorem ucCut : codeCut ucV ucH := by
  have e1 : (codeSlotSet ucV) = fun k => (Rect.unit (s := S20x2560x256) (k0_off4 k) S1x2560x256.size (k0_off4_inb k)).set := funext fun k =>
    (View.set_reshape _ _).trans (View.set_slice_whole _ _)
  have e2 : (codeColsSet ucH) = fun k => (Rect.unit (s := S2560x5120) (k0_off5 k) S2560x256.size (k0_off5_inb k)).set := funext fun k =>
    View.set_slice_whole _ _
  unfold codeCut
  rw [e1, e2]
  refine ⟨⟨?_, ?_⟩, ?_, ?_⟩
  · exact Ring.lead_disjoint (s := S20x2560x256) 0 1 k0_off4 S1x2560x256.size k0_off4_inb (fun k => by rw [k0_off4_eq]; exact (Nat.one_mul _).symm) rfl
  · exact Ring.lead_cover (s := S20x2560x256) 0 1 k0_off4 S1x2560x256.size k0_off4_inb (fun k => by rw [k0_off4_eq]; exact (Nat.one_mul _).symm)
      (fun k a ha => by rw [k0_off4_eq]; revert ha; fin_cases a <;> simp) rfl (fun a ha => by revert ha; fin_cases a <;> simp) (by decide)
  · exact Ring.lead_disjoint (s := S2560x5120) 1 256 k0_off5 S2560x256.size k0_off5_inb (fun k => by rw [k0_off5_eq]; rfl) rfl
  · exact Ring.lead_cover (s := S2560x5120) 1 256 k0_off5 S2560x256.size k0_off5_inb (fun k => by rw [k0_off5_eq]; rfl)
      (fun k a ha => by rw [k0_off5_eq]; revert ha; fin_cases a <;> simp) rfl (fun a ha => by revert ha; fin_cases a <;> simp) (by decide)

/-- Block by block, a code array's columns. -/
def codeBlocks (h : S2560x5120.Idx → Elt F .i8) : S20x2560x256.Idx → Elt F .i8 := fun i =>
  h (ix2 (i 1) ⟨256 * (i 0).val + (i 2).val, by have h0 := (i 0).isLt; have h2 := (i 2).isLt; have e0 : S20x2560x256.size 0 = 20 := rfl; have e2 : S20x2560x256.size 2 = 256 := rfl; have e3 : S2560x5120.size 1 = 5120 := rfl; show _ < 5120; omega⟩)

theorem gcLanded (c : Dev nD) (h : Bf (F := F) c gcH) : codeLanded c gcV gcH (codeBlocks h) h := by
  intro k
  funext i
  obtain ⟨r, l, rfl⟩ : ∃ (r : Fin 2560) (l : Fin 256), i = ix2 r l := ⟨i 0, i 1, funext fun a => by fin_cases a <;> rfl⟩
  show codeBlocks h ((Rect.unit (s := S20x2560x256) (k0_off4 k) S1x2560x256.size (k0_off4_inb k)).emb (Shape.reshapeEquiv _ (ix2 r l)))
    = h ((Rect.unit (s := S2560x5120) (k0_off5 k) S2560x256.size (k0_off5_inb k)).emb (ix2 r l))
  rw [reshapeEquiv_ix2_1ab]
  unfold codeBlocks
  refine congrArg h (funext fun a => Fin.ext ?_)
  have e1 := k0_off4_eq k
  have e2 := k0_off5_eq k
  fin_cases a
  · show k0_off4 k 1 + 1 * r.val = k0_off5 k 0 + 1 * r.val
    rw [e1, e2]; rfl
  · show 256 * (k0_off4 k 0 + 1 * 0) + (k0_off4 k 2 + 1 * l.val) = k0_off5 k 1 + 1 * l.val
    rw [e1, e2]
    show 256 * (k.val + 1 * 0) + (0 + 1 * l.val) = 256 * k.val + 1 * l.val
    omega

theorem ucLanded (c : Dev nD) (h : Bf (F := F) c ucH) : codeLanded c ucV ucH (codeBlocks h) h := by
  intro k
  funext i
  obtain ⟨r, l, rfl⟩ : ∃ (r : Fin 2560) (l : Fin 256), i = ix2 r l := ⟨i 0, i 1, funext fun a => by fin_cases a <;> rfl⟩
  show codeBlocks h ((Rect.unit (s := S20x2560x256) (k0_off4 k) S1x2560x256.size (k0_off4_inb k)).emb (Shape.reshapeEquiv _ (ix2 r l)))
    = h ((Rect.unit (s := S2560x5120) (k0_off5 k) S2560x256.size (k0_off5_inb k)).emb (ix2 r l))
  rw [reshapeEquiv_ix2_1ab]
  unfold codeBlocks
  refine congrArg h (funext fun a => Fin.ext ?_)
  have e1 := k0_off4_eq k
  have e2 := k0_off5_eq k
  fin_cases a
  · show k0_off4 k 1 + 1 * r.val = k0_off5 k 0 + 1 * r.val
    rw [e1, e2]; rfl
  · show 256 * (k0_off4 k 0 + 1 * 0) + (k0_off4 k 2 + 1 * l.val) = k0_off5 k 1 + 1 * l.val
    rw [e1, e2]
    show 256 * (k.val + 1 * 0) + (0 + 1 * l.val) = 256 * k.val + 1 * l.val
    omega

end Cert.KernelIdeal.Hand

end
-- ==== Proof.Ideal.Launch.lean ====
module

public import proofs.«01_k».proof.Proof.Gen.KernelIdeal.Frame
public import proofs.«01_k».proof.Proof.Gen.KernelIdeal.Skeleton
public import proofs.«01_k».proof.Proof.Ideal.Pieces
public import Idealize.ShloMosaic.Lib.Pipeline.KitQuiescent
public import Idealize.ShloMosaic.Lib.Transfers
public import Idealize.ShloMosaic.Lib.Ring
public import Idealize.ShloMosaic.Lib.Tactic

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf kernel pipe)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ### The kernel's own semaphores -/

/-- The semaphore of the copy of `x`, that of the copy of the result, and the four families of the weight copies. -/
abbrev OwnIx : Type := (Unit ⊕ Unit) ⊕ ((Fin k0_t1_loop.trips ⊕ Fin k0_t1_loop.trips) ⊕ (Fin k0_t1_loop.trips ⊕ Fin k0_t1_loop.trips))

def osem0 : OwnIx → SemLoc sig
  | .inl (.inl _) => .dma cc0_scratch9.sem
  | .inl (.inr _) => .dma cc0_scratch14.sem
  | .inr (.inl (.inl k)) => .dma (cell cc0_scratch10 k)
  | .inr (.inl (.inr k)) => .dma (cell cc0_scratch11 k)
  | .inr (.inr (.inl k)) => .dma (cell cc0_scratch12 k)
  | .inr (.inr (.inr k)) => .dma (cell cc0_scratch13 k)

theorem ownSemFacts0 : Pipeline.OwnSemFacts spec0 osem0 := by decide +kernel

/-- The twenty semaphores of one family, at zero. -/
def zeros (c : Dev nD) (A : DmaSems sig S20) : sProp 𝕄 :=
  bigSep Finset.univ (fun k : Fin k0_t1_loop.trips => semVal ((c : Thread nD τ), SemLoc.dma (cell A k)) 0)

theorem ownSems00_eq (c : Dev nD) :
    (Pipeline.ownSems0 (Ix := Unit) (Name := ℕ) (U := Pipeline.UD sig nD τ) (Lvl := ℕ) (Val := Elt F) (τ := τ) osem0 c : sProp 𝕄)
      = iprop((semVal ((c : Thread nD τ), SemLoc.dma cc0_scratch9.sem) 0 ∗ semVal ((c : Thread nD τ), SemLoc.dma cc0_scratch14.sem) 0)
          ∗ (zeros c cc0_scratch10 ∗ zeros c cc0_scratch11) ∗ (zeros c cc0_scratch12 ∗ zeros c cc0_scratch13)) := by
  unfold Pipeline.ownSems0 zeros
  rw [BI.bigSep_univ_sum, BI.bigSep_univ_sum, BI.bigSep_univ_sum, BI.bigSep_univ_sum, BI.bigSep_univ_sum,
    BI.bigSep_univ_of_subsingleton (), BI.bigSep_univ_of_subsingleton ()]
  rfl

/-! ### The region -/

/-- What the result may hold at the end: what the body computes from the region's arrays. -/
def Res (c : Dev nD) (R : Bf (F := F) c yH) : Prop :=
  ∃ (ft : Bf (F := F) c (st0_0 t0_0)) (x0 : Bf (F := F) c xV) (y0 : Bf (F := F) c yV) (z0 : Bf (F := F) c yH),
    (st0_0 t0_0).view.read (Elt F) ft = iblk m c 0 t0_0
    ∧ R = (bodyRun c (st0_0 t0_0) ft (V m c main_v0) x0 (codeBlocks (V m c main_arg2)) (scaleBlocks (V m c main_arg3))
        (codeBlocks (V m c main_arg4)) (scaleBlocks (V m c main_arg5)) y0 z0).1.2

/-- The arrays the body reads through its own copies. -/
def reads (c : Dev nD) : sProp 𝕄 :=
  iprop((xH.view.loc (c : Thread nD τ) ↦{fullShare} V m c main_v0)
    ∗ (gcH.view.loc (c : Thread nD τ) ↦{fullShare} V m c main_arg2) ∗ (gsH.view.loc (c : Thread nD τ) ↦{fullShare} V m c main_arg3)
    ∗ (ucH.view.loc (c : Thread nD τ) ↦{fullShare} V m c main_arg4) ∗ (usH.view.loc (c : Thread nD τ) ↦{fullShare} V m c main_arg5))

/-- The result before and after the region. -/
def before (c : Dev nD) : sProp 𝕄 := iprop(reads m c ∗ yH.view.loc (c : Thread nD τ) ↦{fullShare} V m c main_v2)
def after (c : Dev nD) : sProp 𝕄 := iprop(reads m c ∗ ∃ R, ⌜Res m c R⌝ ∗ yH.view.loc (c : Thread nD τ) ↦{fullShare} R)

/-- The scratch buffers and the semaphores. -/
def scratch (c : Dev nD) : sProp 𝕄 :=
  iprop(Pipeline.ownSems0 (Ix := Unit) (Name := ℕ) (U := Pipeline.UD sig nD τ) (Lvl := ℕ) (Val := Elt F) (τ := τ) osem0 c
    ∗ Pipeline.scopedRest (Ix := Unit) (Name := ℕ) (U := Pipeline.UD sig nD τ) (Lvl := ℕ) (Val := Elt F) spec0 c)

def Phi (c : Dev nD) (i : ℕ) : sProp 𝕄 := if i = 0 then iprop(before m c ∗ scratch c) else iprop(after m c ∗ scratch c)

def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
  Φ i := Phi m c i.val
  q _ := fullShare
  owed _ := 0

theorem A_eq (c : Dev nD) (w : Fin cfg0.W) : (dats m 0 c).A w = V m c (Pipeline.arrRef spec0 w) := by
  dsimp only [dats]
theorem after0_0 (c : Dev nD) (t : Fin cfg0.N) : (dats m 0 c).after 0 t = iblk m c 0 t := by dsimp only [dats]

theorem before0_0 (c : Dev nD) (t : Fin cfg0.N) (d) : (dats m 0 c).before 0 t d = iblk m c 0 t :=
  ((dats m 0 c).before_in_eq_fetched 0 rfl (fun _ => rfl) (fun _ _ _ => rfl) (fun t => by rw [after0_0]; unfold Dat.blockOf iblk; rw [A_eq]; try rfl) t d).trans
    (by unfold Dat.fetched Dat.blockOf iblk; rw [A_eq]; try rfl)

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d)))
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t))

theorem sound_body (c : Dev nD) (t : Fin cfg0.N) :
    bodyPre m c t ⊢ wp frame (wpE (defs₀ (F := F)) Variants.none c none) Set.univ (bodyAt0 t) (fun _ => bodyPost m c t) := by
  obtain rfl : t = t0_0 := fin_N0 t
  unfold bodyPre bodyPost bodyAt0
  rw [after0_0, show (dats m 0 c).Φ (Fin.succ t0_0) = iprop(after m c ∗ scratch c) from rfl,
    show (dats m 0 c).Φ (Fin.castSucc t0_0) = iprop(before m c ∗ scratch c) from rfl]
  simp only [before0_0]
  unfold Dat.owesAt Pipeline.owesWithin
  rw [show (dats m 0 c).owed (Fin.castSucc t0_0) = 0 from rfl, show (dats m 0 c).owed (Fin.succ t0_0) = 0 from rfl]
  unfold before after scratch reads
  rw [ownSems00_eq, scopedRest0_eq]
  unfold zeros
  iintro ⟨⟨⟨⟨Hx, Hgc, Hgs, Huc, Hus⟩, Hyh⟩, ⟨⟨Q1, Q2⟩, ⟨S10, S11⟩, ⟨S12, S13⟩⟩, ⟨%x0, Hxv⟩, ⟨%f1, B1⟩, ⟨%f2, B2⟩, ⟨%f3, B3⟩, ⟨%f4, B4⟩, ⟨%l0, Hl⟩, ⟨%w0, Hw0⟩, ⟨%w1, Hw1⟩, ⟨%y0, Hy⟩⟩, ⟨%W, -, HW⟩, ⟨%d0, Ht⟩⟩
  unfold owns
  icases Ht with ⟨%ft, %hft, Ht⟩
  ihave K1 := (codeStarts_of c gcV gcH cc0_scratch12 gcCut f1 (V m c main_arg2) (codeBlocks (V m c main_arg2))) $$ [B1 Hgc S12]
  · isplitl [B1]; · iexact B1
    isplitl [Hgc]; · iexact Hgc
    iexact S12
  ihave K2 := (scaleStarts_of c gsV gsH cc0_scratch10 gsCut f2 (V m c main_arg3) (scaleBlocks (V m c main_arg3))) $$ [B2 Hgs S10]
  · isplitl [B2]; · iexact B2
    isplitl [Hgs]; · iexact Hgs
    iexact S10
  ihave K3 := (codeStarts_of c ucV ucH cc0_scratch13 ucCut f3 (V m c main_arg4) (codeBlocks (V m c main_arg4))) $$ [B3 Huc S13]
  · isplitl [B3]; · iexact B3
    isplitl [Huc]; · iexact Huc
    iexact S13
  ihave K4 := (scaleStarts_of c usV usH cc0_scratch11 usCut f4 (V m c main_arg5) (scaleBlocks (V m c main_arg5))) $$ [B4 Hus S11]
  · isplitl [B4]; · iexact B4
    isplitl [Hus]; · iexact Hus
    iexact S11
  iapply ((bodyRun c (st0_0 t0_0) ft (V m c main_v0) x0 (codeBlocks (V m c main_arg2)) (scaleBlocks (V m c main_arg3))
        (codeBlocks (V m c main_arg4)) (scaleBlocks (V m c main_arg5)) y0 (V m c main_v2)).2 (hstage0_0 0) (V m c main_arg2) (V m c main_arg3) (V m c main_arg4) (V m c main_arg5)
        (gcLanded c _) (gsLanded c _) (ucLanded c _) (usLanded c _) l0 w0 w1 W _)
  isplitl [Ht]; · iexact Ht
  isplitl [Hx]; · iexact Hx
  isplitl [Hyh]; · iexact Hyh
  isplitl [Hxv]; · iexact Hxv
  isplitl [K1]; · iexact K1
  isplitl [K2]; · iexact K2
  isplitl [K3]; · iexact K3
  isplitl [K4]; · iexact K4
  isplitl [Hl]; · iexact Hl
  isplitl [Hw0]; · iexact Hw0
  isplitl [Hw1]; · iexact Hw1
  isplitl [Hy]; · iexact Hy
  isplitl [Q1]; · iexact Q1
  isplitl [Q2]; · iexact Q2
  isplitl [HW]; · iexact HW
  iintro ⟨Ht, Hx, Hyh, Hxv, K1, K2, K3, K4, Hl, Hw0, Hw1, Hy, Q1, Q2, ⟨%W', HW⟩⟩
  ihave K1 := (codeDone_join c gcV gcH cc0_scratch12 gcCut (V m c main_arg2) (codeBlocks (V m c main_arg2))) $$ K1
  icases K1 with ⟨B1, Hgc, S12⟩
  ihave K2 := (scaleDone_join c gsV gsH cc0_scratch10 gsCut (V m c main_arg3) (scaleBlocks (V m c main_arg3))) $$ K2
  icases K2 with ⟨B2, Hgs, S10⟩
  ihave K3 := (codeDone_join c ucV ucH cc0_scratch13 ucCut (V m c main_arg4) (codeBlocks (V m c main_arg4))) $$ K3
  icases K3 with ⟨B3, Huc, S13⟩
  ihave K4 := (scaleDone_join c usV usH cc0_scratch11 usCut (V m c main_arg5) (scaleBlocks (V m c main_arg5))) $$ K4
  icases K4 with ⟨B4, Hus, S11⟩
  isplitr [HW Ht]
  · isplitl [Hx Hgc Hgs Huc Hus Hyh]
    · isplitl [Hx Hgc Hgs Huc Hus]
      · isplitl [Hx]; · iexact Hx
        isplitl [Hgc]; · iexact Hgc
        isplitl [Hgs]; · iexact Hgs
        isplitl [Huc]; · iexact Huc
        iexact Hus
      iexists _
      isplitr
      swap; · iexact Hyh
      ipureintro
      exact ⟨ft, x0, y0, _, hft, rfl⟩
    isplitl [Q1 Q2 S10 S11 S12 S13]
    · isplitl [Q1 Q2]
      · isplitl [Q1]; · iexact Q1
        iexact Q2
      isplitl [S10 S11]
      · isplitl [S10]; · iexact S10
        iexact S11
      isplitl [S12]; · iexact S12
      iexact S13
    isplitl [Hxv]; · iexact Hxv
    isplitl [B1]; · iexists _; iexact B1
    isplitl [B2]; · iexists _; iexact B2
    isplitl [B3]; · iexists _; iexact B3
    isplitl [B4]; · iexists _; iexact B4
    isplitl [Hl]; · iexact Hl
    isplitl [Hw0]; · iexact Hw0
    isplitl [Hw1]; · iexact Hw1
    iexact Hy
  isplitl [HW]
  · iexists W'; isplitr; · ipureintro; exact fun _ _ => Or.inl trivial
    iexact HW
  iexists ft; isplitr; · ipureintro; exact hft
  iexact Ht

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ### The run -/

def u₀ : Pipeline.UD sig nD τ := (initOf (Pipeline.cells cfgs cellOf_inj) (Pipeline.launchToks cfgs cellOf_inj), 1)

/-- The two arguments the host alone reads. -/
def others (c : Dev nD) : sProp 𝕄 :=
  iprop(((c : Thread nD τ).loc main_arg0 ↦{fullShare} V m c main_arg0) ∗ ((c : Thread nD τ).loc main_arg1 ↦{fullShare} V m c main_arg1))

/-- What the run leaves on core `c`. -/
def QY (c : Dev nD) (s : MemSt nD τ sig (Elt F)) : Prop :=
  (s.mem ((c : Thread nD τ).loc main_arg0) = V m c main_arg0 ∧ s.mem ((c : Thread nD τ).loc main_arg1) = V m c main_arg1
    ∧ s.mem ((c : Thread nD τ).loc main_arg2) = V m c main_arg2 ∧ s.mem ((c : Thread nD τ).loc main_arg3) = V m c main_arg3
    ∧ s.mem ((c : Thread nD τ).loc main_arg4) = V m c main_arg4 ∧ s.mem ((c : Thread nD τ).loc main_arg5) = V m c main_arg5)
  ∧ Res m c (s.mem ((c : Thread nD τ).loc main_v2))

set_option backward.isDefEq.respectTransparency.types false in
theorem hmainD (𝒱₀ : Variants) : Pipeline.HMain (Ix := Unit) (Name := ℕ) (U := Pipeline.UD sig nD τ) (Lvl := ℕ) cfgs 0 defs₀ 𝒱₀ m (main (F := F)) (V m) :=
  Pipeline.hmain_prefix cfgs 0 defs₀ 𝒱₀ m main hostOps0 hostOps0_sub hostOps0_fresh main_chain

set_option backward.isDefEq.respectTransparency.types false in
/-- From any memory with zero counters the program ends, with its arguments as launched, the result at what the body
    computes and every counter at zero. -/
theorem run_main : θ_run defs (onTc (τ := τ) (main (F := F))) (s₀ m ρ) (fun r => (∀ c, QY m c r.2) ∧ r.2.sem = fun _ => 0) :=
  Pipeline.θ_run_region_kit_quiescent cfgs (dats m) () (0 : Fin 1) launch0 ownSemFacts0 embL defs₀ Variants.none m ρ main
    (hbody := fun c => (body_obligation m c).loose) (hshare := fun c => (dats m 0 c).share_full fun _ => rfl)
    (howed := fun _ _ => rfl)
    (G := fun _ => iprop(emp)) (u₀ := u₀)
    (hu₀ := by
      unfold u₀
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (V := V m) (hmain := hmainD m Variants.none) (hA := A_eq m)
    (X := fun c => iprop(before m c ∗ Pipeline.ownSems0 (Ix := Unit) (Name := ℕ) (U := Pipeline.UD sig nD τ) (Lvl := ℕ) (Val := Elt F) (τ := τ) osem0 c))
    (Y := after m) (Z := others m)
    (hX := fun c => by
      rw [unscopedRest0_eq]
      unfold before reads others
      iintro ⟨⟨H0, H1, H2, H3, H4, H5, Hv, Hr⟩, HS, -, -, -⟩; imodintro
      isplitr [H0 H1]
      · isplitr [HS]
        · isplitr [Hr]
          · isplitl [Hv]; · iexact Hv
            isplitl [H2]; · iexact H2
            isplitl [H3]; · iexact H3
            isplitl [H4]; · iexact H4
            iexact H5
          iexact Hr
        iexact HS
      isplitl [H0]; · iexact H0
      iexact H1)
    (hin := fun c => by
      rw [show (dats m 0 c).Φ 0 = iprop(before m c ∗ scratch c) from rfl]
      unfold scratch
      iintro ⟨⟨HB, HS⟩, HR⟩
      isplitl [HB]; · iexact HB
      isplitl [HS]; · iexact HS
      iexact HR)
    (hout := fun c => by
      rw [show (dats m 0 c).Φ (Fin.last cfg0.N) = iprop(after m c ∗ scratch c) from rfl]
      unfold scratch
      exact .rfl)
    (QY := QY m)
    (hY := fun c s' => by
      unfold after others reads
      iintro ⟨⟨⟨Hv, H2, H3, H4, H5⟩, ⟨%R, %hR, Hr⟩⟩, ⟨H0, H1⟩, HSI⟩
      icombine HSI H0 gives %h0
      icombine HSI H1 gives %h1
      icombine HSI H2 gives %h2
      icombine HSI H3 gives %h3
      icombine HSI H4 gives %h4
      icombine HSI H5 gives %h5
      icombine HSI Hr gives %hr
      imodintro
      isplitr
      · ipureintro
        refine ⟨⟨Buf.eq_of_forall_mem_univ h0, Buf.eq_of_forall_mem_univ h1, Buf.eq_of_forall_mem_univ h2, Buf.eq_of_forall_mem_univ h3,
          Buf.eq_of_forall_mem_univ h4, Buf.eq_of_forall_mem_univ h5⟩, ?_⟩
        have e := Buf.eq_of_forall_mem_univ hr
        exact e ▸ hR
      iexact HSI)
    (hQ := fun s h hz => ⟨fun c => (h c).2, hz⟩)

/-- The arguments as launched and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun r h => ⟨fun c => by
    obtain ⟨h0, h1, h2, h3, h4, h5⟩ := (h.1 c).1
    exact ⟨h0.trans (V_main_arg0 m c), h1.trans (V_main_arg1 m c), h2.trans (V_main_arg2 m c), h3.trans (V_main_arg3 m c),
      h4.trans (V_main_arg4 m c), h5.trans (V_main_arg5 m c)⟩, h.2⟩) (run_main m ρ)

end Cert.KernelIdeal.Hand

end
-- ==== Proof.Value.Chain.lean ====
module

public import proofs.«01_k».proof.Proof.Ideal.Trip
public import Idealize.ShloMosaic.Lib.Pointwise
public import Idealize.ShloMosaic.Lib.Bf16Pair
public import Idealize.ShloMosaic.Lib.Mxu.Lemmas
public import Idealize.ShloMosaic.Lib.MatmulPlain

@[expose] public section

noncomputable section

namespace Cert.KernelIdeal.Hand

open Cert.KernelIdeal Cert.KernelIdeal.Gen
open Idealize.ShloMosaic Idealize.ShloMosaic.TcCoe Idealize.ShloMosaic.Tactic

/-- What unit `q`'s sixteen accumulator rows stand for: their contents where live, nothing yet where not. -/
def held (s : Mxu Ideal) (q : Fin 2) (R : Fin 16) (l : Fin 256) : EReal :=
  if s.live q (Mxu.row fits_0_16 R) = true then s.read q 0 fits_0_16 (ix2 R l) else 0

/-- One accumulate's product. -/
def pass (L : FVec Ideal (Mxu.STile 16) .bf16) (w : FVec Ideal (Mxu.STile 256) .bf16) (R : Fin 16) (l : Fin 256) : EReal :=
  ∑ i : Fin 256, L (ix2 R i) * w (ix2 i l)

theorem pass_eq (L : FVec Ideal (Mxu.STile 16) .bf16) (w : FVec Ideal (Mxu.STile 256) .bf16) (R : Fin 16) (l : Fin 256) :
    FloatOps.mxuPass (DotDims.plain 16 256 256) L w (ix2 R l) = pass L w R l := by
  have h := Ideal.matmul_plain_apply none L w (fun _ => 0) R l
  rw [zero_add] at h
  exact (zero_add _).symm.trans h

theorem held_pushed (s : Mxu Ideal) (q r : Fin 2) (w : FVec Ideal (Mxu.STile 256) .bf16) (q' : Fin 2) (R : Fin 16) (l : Fin 256) :
    held (s.pushed q r false w) q' R l = held s q' R l := by
  unfold held; rw [Mxu.live_pushed, Mxu.read_pushed]

theorem held_acc_ne (s : Mxu Ideal) (q r : Fin 2) (L : FVec Ideal (Mxu.STile 16) .bf16) (q' : Fin 2) (h : q' ≠ q) (R : Fin 16) (l : Fin 256) :
    held (s.accLhs q r 0 L fits_0_16) q' R l = held s q' R l := by
  unfold held
  rw [Mxu.live_accLhs, Mxu.read_accLhs_ne _ _ _ _ _ _ _ _ _ (Or.inl h), if_neg (c := q' = q ∧ _) (fun e => h e.1)]

theorem held_acc (s : Mxu Ideal) (q r : Fin 2) (L : FVec Ideal (Mxu.STile 16) .bf16) (w : FVec Ideal (Mxu.STile 256) .bf16)
    (hw : s.reg q r = some ⟨.bf16, false, w⟩) (R : Fin 16) (l : Fin 256) :
    held (s.accLhs q r 0 L fits_0_16) q R l = held s q R l + pass L w R l := by
  unfold held
  rw [Mxu.live_accLhs_row, if_pos rfl, Mxu.read_accLhs, Mxu.staged_eq, hw, Option.getD_some, Mxu.Staged.pass_false, ← pass_eq]
  show Mxu.deposit (s.live q (Mxu.row fits_0_16 R)) (s.read q 0 fits_0_16 (ix2 R l)) _ = _
  cases s.live q (Mxu.row fits_0_16 R)
  · rw [if_neg (by decide), zero_add]; rfl
  · rw [if_pos rfl]; rfl

/-- One group: both tiles pushed, then the operand's columns accumulated by each. -/
abbrev group (s : Mxu Ideal) (b : Fin 2) (L : FVec Ideal (Mxu.STile 16) .bf16) (wg wu : FVec Ideal (Mxu.STile 256) .bf16) : Mxu Ideal :=
  (((s.pushed 0 b false wg).pushed 1 b false wu).accLhs 0 b 0 L fits_0_16).accLhs 1 b 0 L fits_0_16

/-- The state after `n` groups of operands `L` and tiles `T`. -/
structure After (L : ℕ → FVec Ideal (Mxu.STile 16) .bf16) (T : Fin 2 → ℕ → FVec Ideal (Mxu.STile 256) .bf16) (s : Mxu Ideal) (n : ℕ) : Prop where
  reg : ∀ q r, s.reg q r = none
  held : ∀ q R l, held s q R l = ∑ g ∈ Finset.range n, pass (L g) (T q g) R l

theorem After.zero {L : ℕ → FVec Ideal (Mxu.STile 16) .bf16} {T : Fin 2 → ℕ → FVec Ideal (Mxu.STile 256) .bf16} {s : Mxu Ideal}
    (hs : ∀ q r, s.reg q r = none) (hl : ∀ q R, ¬ s.live q R = true) : After L T s 0 :=
  ⟨hs, fun q R l => by unfold Hand.held; rw [if_neg (hl q _)]; rfl⟩

theorem After.step {L : ℕ → FVec Ideal (Mxu.STile 16) .bf16} {T : Fin 2 → ℕ → FVec Ideal (Mxu.STile 256) .bf16} {s : Mxu Ideal} {n : ℕ}
    (h : After L T s n) (b : Fin 2) {Ln : FVec Ideal (Mxu.STile 16) .bf16} {wg wu : FVec Ideal (Mxu.STile 256) .bf16} (hL : Ln = L n) (hg : wg = T 0 n) (hu : wu = T 1 n) :
    After L T (group s b Ln wg wu) (n + 1) := by
  subst hL hg hu
  have e0 : ((s.pushed 0 b false (T 0 n)).pushed 1 b false (T 1 n)).reg 0 b = some ⟨.bf16, false, T 0 n⟩ := by
    rw [Mxu.reg_pushed_ne _ _ _ _ _ _ _ (fun e => absurd e.1 (by decide)), Mxu.reg_pushed_of_none _ _ _ _ _ (h.reg 0 b)]
  have e1 : (((s.pushed 0 b false (T 0 n)).pushed 1 b false (T 1 n)).accLhs 0 b 0 (L n) fits_0_16).reg 1 b = some ⟨.bf16, false, T 1 n⟩ := by
    rw [Mxu.reg_accLhs_ne _ _ _ _ _ _ _ _ (fun e => absurd e.1 (by decide)), Mxu.reg_pushed_of_none]
    rw [Mxu.reg_pushed_ne _ _ _ _ _ _ _ (fun e => absurd e.1 (by decide))]; exact h.reg 1 b
  refine ⟨fun q r => ?_, fun q R l => ?_⟩
  · unfold group
    by_cases h1 : q = 1 ∧ r = b
    · obtain ⟨rfl, rfl⟩ := h1; rw [Mxu.reg_accLhs]
    · rw [Mxu.reg_accLhs_ne _ _ _ _ _ _ _ _ h1]
      by_cases h0 : q = 0 ∧ r = b
      · obtain ⟨rfl, rfl⟩ := h0; rw [Mxu.reg_accLhs]
      · rw [Mxu.reg_accLhs_ne _ _ _ _ _ _ _ _ h0, Mxu.reg_pushed_ne _ _ _ _ _ _ _ h1, Mxu.reg_pushed_ne _ _ _ _ _ _ _ h0, h.reg]
  · rw [Finset.sum_range_succ, ← h.held]
    unfold group
    match q with
    | 0 => rw [held_acc_ne _ _ _ _ _ (by decide), held_acc _ _ _ _ _ e0, held_pushed, held_pushed]
    | 1 => rw [held_acc _ _ _ _ _ e1, held_acc_ne _ _ _ _ _ (by decide), held_pushed, held_pushed]

/-- The sixteen rows read, where an accumulate has made them live. -/
theorem After.read {L : ℕ → FVec Ideal (Mxu.STile 16) .bf16} {T : Fin 2 → ℕ → FVec Ideal (Mxu.STile 256) .bf16} {s : Mxu Ideal} {n : ℕ}
    (h : After L T s n) (q : Fin 2) (hl : ∀ R : Fin 16, s.live q (Mxu.row fits_0_16 R) = true) (R : Fin 16) (l : Fin 256) :
    s.read q 0 fits_0_16 (ix2 R l) = ∑ g ∈ Finset.range n, pass (L g) (T q g) R l := by
  rw [← h.held]; unfold Hand.held; rw [if_pos (hl R)]

end Cert.KernelIdeal.Hand

end
-- ==== Proof.Value.Tile.lean ====
module

public import proofs.«01_k».proof.Proof.Ideal.Trip
public import Idealize.ShloMosaic.Lib.Pointwise
public import Idealize.ShloMosaic.Lib.Bf16Pair

@[expose] public section

noncomputable section

namespace Cert.KernelIdeal.Hand

open Cert.KernelIdeal Cert.KernelIdeal.Gen
open Idealize.ShloMosaic Idealize.ShloMosaic.TcCoe Idealize.ShloMosaic.Tactic

/-- A code byte's nibble, low or high, as a signed word. -/
def nibble (w : BitVec 8) (p : ℕ) : BitVec 32 :=
  if p < 1 then ((w.setWidth 32) <<< 28).sshiftRight 28 else ((w.setWidth 32) <<< 24).sshiftRight 28

/-- A weight: a nibble times its scale. -/
def weight (w : BitVec 8) (p : ℕ) (s : EReal) : EReal := (((nibble w p).toInt : ℝ) : EReal) * s

/-- A group's tile of weights. -/
theorem tile_apply (C : IVec S1x128x256 8) (W : FVec Ideal S1x2x256 .bf16) (i l : Fin 256) :
    k0_pay22 (F := Ideal) C W (ix2 i l)
      = weight (C (ix3 0 ⟨i.val / 2, by omega⟩ l)) (i.val % 2) (W (ix3 0 ⟨i.val % 2, Nat.mod_lt _ (by decide)⟩ l)) := by
  pointwise [k0_pay22]
  unfold weight nibble
  have e : (if i.val % 2 % 2 = 0 then W (ix3 0 0 l) else W (ix3 0 1 l)) = W (ix3 0 ⟨i.val % 2, Nat.mod_lt _ (by decide)⟩ l) := by
    split <;> rename_i h
    · congr 2; apply Fin.ext; show 0 = i.val % 2; omega
    · congr 2; apply Fin.ext; show 1 = i.val % 2; omega
  rw [e]
  congr 1

end Cert.KernelIdeal.Hand

end
-- ==== Proof.Value.Lanes.lean ====
module

public import proofs.«01_k».proof.Proof.Ideal.Trip
public import Idealize.ShloMosaic.Lib.Pointwise

@[expose] public section

noncomputable section

namespace Cert.KernelIdeal.Hand

open Cert.KernelIdeal Cert.KernelIdeal.Gen
open Idealize.ShloMosaic Idealize.ShloMosaic.TcCoe Idealize.ShloMosaic.Tactic

/-- A lane's half, from a column's start: the gathers' index. -/
theorem half_eq (c : BitVec 32) (hc : c = 0#32 ∨ c = 64#32) : ∀ l : Fin 128,
    (Scalar.select (IntOp.cmpi CmpIPredicate.slt (IntOp.addi c (IntOp.shrsi ArithUnit.vector (BitVec.ofNat 32 l.val) 1#32)) 0#32)
      (IntOp.addi (IntOp.addi c (IntOp.shrsi ArithUnit.vector (BitVec.ofNat 32 l.val) 1#32)) 128#32)
      (IntOp.addi c (IntOp.shrsi ArithUnit.vector (BitVec.ofNat 32 l.val) 1#32))).toNat = c.toNat + l.val / 2 := by
  rcases hc with rfl | rfl <;> decide +kernel

theorem half_zero {n : ℕ} (h : n < 128) :
    (Scalar.select (IntOp.cmpi CmpIPredicate.slt (IntOp.addi (0#32) (IntOp.shrsi ArithUnit.vector (BitVec.ofNat 32 n) 1#32)) 0#32)
      (IntOp.addi (IntOp.addi (0#32) (IntOp.shrsi ArithUnit.vector (BitVec.ofNat 32 n) 1#32)) 128#32)
      (IntOp.addi (0#32) (IntOp.shrsi ArithUnit.vector (BitVec.ofNat 32 n) 1#32))).toNat = n / 2 :=
  (half_eq 0#32 (Or.inl rfl) ⟨n, h⟩).trans (Nat.zero_add _)

theorem half_mid {n : ℕ} (h : n < 128) :
    (Scalar.select (IntOp.cmpi CmpIPredicate.slt (IntOp.addi (64#32) (IntOp.shrsi ArithUnit.vector (BitVec.ofNat 32 n) 1#32)) 0#32)
      (IntOp.addi (IntOp.addi (64#32) (IntOp.shrsi ArithUnit.vector (BitVec.ofNat 32 n) 1#32)) 128#32)
      (IntOp.addi (64#32) (IntOp.shrsi ArithUnit.vector (BitVec.ofNat 32 n) 1#32))).toNat = 64 + n / 2 :=
  half_eq 64#32 (Or.inr rfl) ⟨n, h⟩

theorem odd_all : ∀ n : Fin 128, IntOp.cmpi CmpIPredicate.eq (IntOp.andi (BitVec.ofNat 32 n.val) 1#32) 1#32 = if n.val % 2 = 1 then 1#1 else 0#1 := by
  decide +kernel

theorem odd_eq {n : ℕ} (h : n < 128) : IntOp.cmpi CmpIPredicate.eq (IntOp.andi (BitVec.ofNat 32 n) 1#32) 1#32 = if n % 2 = 1 then 1#1 else 0#1 :=
  odd_all ⟨n, h⟩

theorem sel_if {α : Type} (p : Prop) [Decidable p] (a b : α) : Scalar.select (if p then 1#1 else 0#1) a b = if p then a else b := by
  by_cases h : p <;> simp [h, Scalar.select]

end Cert.KernelIdeal.Hand

end
-- ==== Proof.Value.Words.lean ====
module

public import proofs.«01_k».proof.Proof.Value.Lanes
public import Idealize.ShloMosaic.Lib.Pipeline.Value
public import Idealize.ShloMosaic.Lib.Pointwise
public import Idealize.ShloMosaic.Lib.Bf16Pair

@[expose] public section

noncomputable section

namespace Cert.KernelIdeal.Hand

open Cert.KernelIdeal Cert.KernelIdeal.Gen
open Idealize.ShloMosaic Idealize.ShloMosaic.TcCoe Idealize.ShloMosaic.Tactic

theorem lane_eq : ∀ l : Fin 128,
    (Scalar.select
      (IntOp.cmpi CmpIPredicate.slt
        (Scalar.select (IntOp.cmpi CmpIPredicate.slt (BitVec.ofNat 32 ↑l) 64#32)
          (IntOp.muli (2#32) (BitVec.ofNat 32 ↑l))
          (IntOp.subi (IntOp.muli (2#32) (BitVec.ofNat 32 ↑l)) 127#32))
        0#32)
      (IntOp.addi
        (Scalar.select (IntOp.cmpi CmpIPredicate.slt (BitVec.ofNat 32 ↑l) 64#32)
          (IntOp.muli (2#32) (BitVec.ofNat 32 ↑l))
          (IntOp.subi (IntOp.muli (2#32) (BitVec.ofNat 32 ↑l)) 127#32))
        128#32)
      (Scalar.select (IntOp.cmpi CmpIPredicate.slt (BitVec.ofNat 32 ↑l) 64#32)
        (IntOp.muli (2#32) (BitVec.ofNat 32 ↑l))
        (IntOp.subi (IntOp.muli (2#32) (BitVec.ofNat 32 ↑l)) 127#32))).toNat
      = if l.val < 64 then 2 * l.val else 2 * l.val - 127 := by decide +kernel

/-- A scale row's words: lane `l`, part `p` is column `2l + p` of the two loads side by side. -/
theorem words_apply (A B : FVec Ideal S1x20x128 .f32) (g : Fin 20) (p : Fin 2) (l : Fin 128) :
    k0_pay14 (F := Ideal) k0_pay9 k0_pay10 k0_pay11 k0_pay12 A B (ix3 g p l)
      = if h : 2 * l.val + p.val < 128 then A (ix3 0 g ⟨2 * l.val + p.val, h⟩)
        else B (ix3 0 g ⟨2 * l.val + p.val - 128, by omega⟩) := by
  pointwise [k0_pay14, k0_pay9, k0_pay10, k0_pay11, k0_pay12, k0_pay13]
  simp only [lane_eq]
  obtain ⟨p, hp⟩ := p
  dsimp only
  by_cases hl : l.val < 64
  · simp only [if_pos hl, Nat.mod_eq_of_lt (show 2 * l.val < 128 by omega), odd_eq (show 2 * l.val < 128 by omega), sel_if]
    rw [if_neg (show ¬ 2 * l.val % 2 = 1 by omega), if_neg (show ¬ 2 * l.val % 2 = 1 by omega), dif_pos (by omega)]
    split
    · congr 3; omega
    · congr 3; omega
  · simp only [if_neg hl, Nat.mod_eq_of_lt (show 2 * l.val - 127 < 128 by omega), odd_eq (show 2 * l.val - 127 < 128 by omega), sel_if]
    rw [if_pos (show (2 * l.val - 127) % 2 = 1 by omega), if_pos (show (2 * l.val - 127) % 2 = 1 by omega), dif_neg (by omega)]
    split
    · congr 3; omega
    · congr 3; omega

section Pieces

variable (c : Dev nD) (k : Fin k0_t1_loop.trips) (f : S20x20x512.Idx → EReal)

/-- The words a scale block is stored as: column `2 l + p` of row `g`. -/
def wordsAt (g : Fin 20) (p : Fin 2) (l : Fin 256) : EReal := f (ix3 ⟨k.val, k.isLt⟩ g ⟨2 * l.val + p.val, by omega⟩)

/-- One load of a scale block's columns. -/
theorem scaleLoad {off : Fin 3 → ℕ} (o : ℕ) (ho : off = ![k.val, 0, o]) (inb : ∀ a, off a + S1x20x128.size a ≤ S20x20x512.size a) (g : Fin 20) (l : Fin 128)
    (hl : o + l.val < 512) : (fun x => f ((Rect.unit (s := S20x20x512) off S1x20x128.size inb).emb x) : S1x20x128.Idx → EReal) (ix3 0 g l)
      = f (ix3 ⟨k.val, k.isLt⟩ g ⟨o + l.val, hl⟩) := by
  subst ho
  refine congrArg f (funext fun a => Fin.ext ?_)
  match a with
  | 0 => show k.val + 1 * 0 = k.val; omega
  | 1 => show 0 + 1 * g.val = g.val; omega
  | 2 => show o + 1 * l.val = o + l.val; omega

/-- The two stores of a block's words, the last first. -/
abbrev wordPieces (A B C D : FVec Ideal S1x20x128 .f32) : List (View.Piece (Elt Ideal) S20x2x256 .bf16) :=
  [⟨Rect.unit ![0, 0, 128] S20x2x128.size inb_S20x2x256_S20x2x128_0_0_128, k0_pay14 (F := Ideal) k0_pay9 k0_pay10 k0_pay11 k0_pay12 C D⟩,
   ⟨Rect.unit ![0, 0, 0] S20x2x128.size inb_S20x2x256_S20x2x128_0_0_0, k0_pay14 (F := Ideal) k0_pay9 k0_pay10 k0_pay11 k0_pay12 A B⟩]

theorem wordPieces_apply (A B C D : FVec Ideal S1x20x128 .f32)
    (hA : ∀ (g : Fin 20) (l : Fin 128), A (ix3 0 g l) = f (ix3 ⟨k.val, k.isLt⟩ g ⟨l.val, by omega⟩))
    (hB : ∀ (g : Fin 20) (l : Fin 128), B (ix3 0 g l) = f (ix3 ⟨k.val, k.isLt⟩ g ⟨128 + l.val, by omega⟩))
    (hC : ∀ (g : Fin 20) (l : Fin 128), C (ix3 0 g l) = f (ix3 ⟨k.val, k.isLt⟩ g ⟨256 + l.val, by omega⟩))
    (hD : ∀ (g : Fin 20) (l : Fin 128), D (ix3 0 g l) = f (ix3 ⟨k.val, k.isLt⟩ g ⟨384 + l.val, by omega⟩))
    (g : Fin 20) (p : Fin 2) (l : Fin 256) :
    View.canon (wordPieces A B C D) (ix3 g p l) = wordsAt k f g p l := by
  refine View.canon_apply_of_pieces (Val := Elt Ideal) (S := S20x2x256) (e := .bf16) (fun i => wordsAt k f (i 0) (i 1) (i 2)) _ (fun q hq x => ?_) (ix3 g p l) ?_
  · rcases List.mem_cons.mp hq with rfl | hq
    · obtain ⟨g, p, l, rfl⟩ : ∃ (g : Fin 20) (p : Fin 2) (l : Fin 128), x = ix3 g p l :=
        ⟨x 0, x 1, x 2, funext fun a => by match a with | 0 => rfl | 1 => rfl | 2 => rfl⟩
      refine (words_apply _ _ g p l).trans ?_
      unfold wordsAt
      split
      · rw [hC]
        refine congrArg f (funext fun a => Fin.ext ?_)
        match a with
        | 0 => rfl
        | 1 => show g.val = 0 + 1 * g.val; omega
        | 2 => show 256 + (2 * l.val + p.val) = 2 * (128 + 1 * l.val) + (0 + 1 * p.val); omega
      · rename_i h
        rw [hD]
        refine congrArg f (funext fun a => Fin.ext ?_)
        match a with
        | 0 => rfl
        | 1 => show g.val = 0 + 1 * g.val; omega
        | 2 => show 384 + (2 * l.val + p.val - 128) = 2 * (128 + 1 * l.val) + (0 + 1 * p.val); omega
    rcases List.mem_cons.mp hq with rfl | hq
    · obtain ⟨g, p, l, rfl⟩ : ∃ (g : Fin 20) (p : Fin 2) (l : Fin 128), x = ix3 g p l :=
        ⟨x 0, x 1, x 2, funext fun a => by match a with | 0 => rfl | 1 => rfl | 2 => rfl⟩
      refine (words_apply _ _ g p l).trans ?_
      unfold wordsAt
      split
      · rw [hA]
        refine congrArg f (funext fun a => Fin.ext ?_)
        match a with
        | 0 => rfl
        | 1 => show g.val = 0 + 1 * g.val; omega
        | 2 => show (2 * l.val + p.val) = 2 * (0 + 1 * l.val) + (0 + 1 * p.val); omega
      · rename_i h
        rw [hB]
        refine congrArg f (funext fun a => Fin.ext ?_)
        match a with
        | 0 => rfl
        | 1 => show g.val = 0 + 1 * g.val; omega
        | 2 => show 128 + (2 * l.val + p.val - 128) = 2 * (0 + 1 * l.val) + (0 + 1 * p.val); omega
    · exact absurd hq List.not_mem_nil
  · by_cases h : l.val < 128
    · refine ⟨_, List.mem_cons_of_mem _ List.mem_cons_self, ?_⟩
      refine (Rect.mem_set_unit (inb := by decide)).mpr fun a => ?_
      match a with
      | 0 => exact ⟨Nat.zero_le _, by show g.val < 0 + 20; omega⟩
      | 1 => exact ⟨Nat.zero_le _, by show p.val < 0 + 2; omega⟩
      | 2 => exact ⟨Nat.zero_le _, by show l.val < 0 + 128; omega⟩
    · refine ⟨_, List.mem_cons_self, ?_⟩
      refine (Rect.mem_set_unit (inb := by decide)).mpr fun a => ?_
      match a with
      | 0 => exact ⟨Nat.zero_le _, by show g.val < 0 + 20; omega⟩
      | 1 => exact ⟨Nat.zero_le _, by show p.val < 0 + 2; omega⟩
      | 2 => exact ⟨by show 128 ≤ l.val; omega, by show l.val < 128 + 128; omega⟩

end Pieces

end Cert.KernelIdeal.Hand

end
-- ==== Proof.Value.Spread.lean ====
module

public import proofs.«01_k».proof.Proof.Value.Lanes
public import proofs.«01_k».proof.Proof.Ideal.Body
public import Idealize.ShloMosaic.Lib.Pointwise
public import Idealize.ShloMosaic.Lib.Bf16Pair
public import Idealize.ShloMosaic.Lib.Pipeline.Value

@[expose] public section

noncomputable section

namespace Cert.KernelIdeal.Hand

open Cert.KernelIdeal Cert.KernelIdeal.Gen
open Idealize.ShloMosaic Idealize.ShloMosaic.TcCoe Idealize.ShloMosaic.Tactic

/-- An activation kept where its magnitude is above the threshold. -/
def kept (t x : EReal) : EReal := if t < FloatOps.absf (F := Ideal) (φ := .f32) x then x else 0

/-- The expanded operand: rows 0 to 7 hold the activations at even columns, rows 8 to 15 at odd ones. -/
def spread (t : EReal) (f : S5x2560.Idx → EReal) (R : Fin 16) (j : Fin 5120) : EReal :=
  if h : R.val % 8 < 5 ∧ R.val / 8 = j.val % 2 then kept t (f (ix2 ⟨R.val % 8, h.1⟩ ⟨j.val / 2, by omega⟩)) else 0

theorem even_apply (t : Elt Ideal .f32) (X : FVec Ideal S5x128 .bf16) (R : Fin 16) (l : Fin 128) :
    k0_pay127 (F := Ideal) t X (ix2 R l)
      = if h : R.val % 8 < 5 ∧ R.val / 8 = l.val % 2 then kept t (X (ix2 ⟨R.val % 8, h.1⟩ ⟨l.val / 2, by omega⟩)) else 0 := by
  pointwise [k0_pay127, k0_pay126, k0_pay125, k0_pay124]
  simp only [half_zero l.isLt, odd_eq l.isLt, sel_if, Nat.mod_eq_of_lt (show l.val / 2 < 128 by omega)]
  unfold kept
  by_cases hR : R.val < 8
  · simp only [dif_pos hR, Nat.mod_eq_of_lt hR, Nat.div_eq_of_lt hR]
    by_cases h1 : l.val % 2 = 1
    · rw [if_pos h1, dif_neg (show ¬ (R.val < 5 ∧ 0 = l.val % 2) by omega)]
    · rw [if_neg h1]
      by_cases h5 : R.val < 5
      · simp only [dif_pos h5, dif_pos (show R.val < 5 ∧ 0 = l.val % 2 by omega)]
      · simp only [dif_neg h5, dif_neg (show ¬ (R.val < 5 ∧ 0 = l.val % 2) by omega)]
  · simp only [dif_neg hR, show R.val % 8 = R.val - 8 by omega, show R.val / 8 = 1 by omega]
    by_cases h1 : l.val % 2 = 1
    · rw [if_pos h1]
      by_cases h5 : R.val - 8 < 5
      · simp only [dif_pos h5, dif_pos (show R.val - 8 < 5 ∧ 1 = l.val % 2 by omega)]
      · simp only [dif_neg h5, dif_neg (show ¬ (R.val - 8 < 5 ∧ 1 = l.val % 2) by omega)]
    · rw [if_neg h1, dif_neg (show ¬ (R.val - 8 < 5 ∧ 1 = l.val % 2) by omega)]

theorem odd_apply (t : Elt Ideal .f32) (X : FVec Ideal S5x128 .bf16) (R : Fin 16) (l : Fin 128) :
    k0_pay134 (F := Ideal) (iota Kind.tc S8x128 32 [1] iota_S8x128_d1_w32) k0_pay124 (k0_pay131 t k0_pay125 X) (ix2 R l)
      = if h : R.val % 8 < 5 ∧ R.val / 8 = l.val % 2 then kept t (X (ix2 ⟨R.val % 8, h.1⟩ ⟨64 + l.val / 2, by omega⟩)) else 0 := by
  pointwise [k0_pay134, k0_pay131, k0_pay125, k0_pay124]
  simp only [half_mid l.isLt, odd_eq l.isLt, sel_if, Nat.mod_eq_of_lt (show 64 + l.val / 2 < 128 by omega)]
  unfold kept
  by_cases hR : R.val < 8
  · simp only [dif_pos hR, Nat.mod_eq_of_lt hR, Nat.div_eq_of_lt hR]
    by_cases h1 : l.val % 2 = 1
    · rw [if_pos h1, dif_neg (show ¬ (R.val < 5 ∧ 0 = l.val % 2) by omega)]
    · rw [if_neg h1]
      by_cases h5 : R.val < 5
      · simp only [dif_pos h5, dif_pos (show R.val < 5 ∧ 0 = l.val % 2 by omega)]
      · simp only [dif_neg h5, dif_neg (show ¬ (R.val < 5 ∧ 0 = l.val % 2) by omega)]
  · simp only [dif_neg hR, show R.val % 8 = R.val - 8 by omega, show R.val / 8 = 1 by omega]
    by_cases h1 : l.val % 2 = 1
    · rw [if_pos h1]
      by_cases h5 : R.val - 8 < 5
      · simp only [dif_pos h5, dif_pos (show R.val - 8 < 5 ∧ 1 = l.val % 2 by omega)]
      · simp only [dif_neg h5, dif_neg (show ¬ (R.val - 8 < 5 ∧ 1 = l.val % 2) by omega)]
    · rw [if_neg h1, dif_neg (show ¬ (R.val - 8 < 5 ∧ 1 = l.val % 2) by omega)]

section Pieces

variable (c : Dev nD) (t : Elt Ideal .f32) (f : Bf (F := Ideal) c xV)

theorem colsIn {n m w : ℕ} (h : w * (m + 1) ≤ n) (r : ℕ) :
    ∀ a : Fin 2, (![0, w * m] : Fin 2 → ℕ) a + (![r, w] : Fin 2 → ℕ) a ≤ (![r, n] : Fin 2 → ℕ) a := fun a =>
  match a with
  | 0 => Nat.le_of_eq (Nat.zero_add r)
  | 1 => by show w * m + w ≤ n; rw [Nat.mul_succ] at h; exact h

/-- The activations' columns `128 m` to `128 m + 127`. -/
abbrev xCols (m : ℕ) (hm : m < 20) : FVec Ideal S5x128 .bf16 :=
  View.readAt (Elt Ideal) xV.view (Rect.unit (s := S5x2560) ![0, 128 * m] S5x128.size (colsIn (by omega) 5)).toLoadRect f

theorem xCols_apply (m : ℕ) (hm : m < 20) (r : Fin 5) (l : Fin 128) :
    xCols c f m hm (ix2 r l) = f (ix2 r ⟨128 * m + l.val, by omega⟩) := by
  show f ((Rect.unit (s := S5x2560) ![0, 128 * m] S5x128.size _).emb (ix2 r l)) = _
  refine congrArg f (funext fun a => Fin.ext ?_)
  match a with
  | 0 => show 0 + 1 * r.val = r.val; omega
  | 1 => show 128 * m + 1 * l.val = 128 * m + l.val; omega

/-- The operand's forty stores, the last first. -/
def spreadPieces : (n : ℕ) → n ≤ 20 → List (View.Piece (Elt Ideal) S16x5120 .bf16)
  | 0, _ => []
  | n + 1, h =>
    ⟨Rect.unit (s := S16x5120) ![0, 128 * (2 * n + 1)] S16x128.size (colsIn (by omega) 16),
      k0_pay134 (iota Kind.tc S8x128 32 [1] iota_S8x128_d1_w32) k0_pay124 (k0_pay131 t k0_pay125 (xCols c f n h))⟩ ::
    ⟨Rect.unit (s := S16x5120) ![0, 128 * (2 * n)] S16x128.size (colsIn (by omega) 16), k0_pay127 t (xCols c f n h)⟩ ::
    spreadPieces n (Nat.le_of_lt h)

theorem spreadPieces_sound : ∀ (n : ℕ) (h : n ≤ 20), ∀ p ∈ spreadPieces c t f n h, ∀ x : p.1.shape.Idx,
    p.2 x = spread t f (p.1.emb x 0) (p.1.emb x 1)
  | 0, _ => fun p hp => absurd hp List.not_mem_nil
  | n + 1, h => fun p hp x => by
    rcases List.mem_cons.mp hp with rfl | hp
    · obtain ⟨R, l, rfl⟩ : ∃ (R : Fin 16) (l : Fin 128), x = ix2 R l := ⟨x 0, x 1, funext fun a => by match a with | 0 => rfl | 1 => rfl⟩
      refine (odd_apply t _ R l).trans ?_
      have e0 : ((Rect.unit (s := S16x5120) ![0, 128 * (2 * n + 1)] S16x128.size (colsIn (by omega) 16)).emb (ix2 R l) 0).val = R.val := by
        show 0 + 1 * R.val = R.val; omega
      have e1 : ((Rect.unit (s := S16x5120) ![0, 128 * (2 * n + 1)] S16x128.size (colsIn (by omega) 16)).emb (ix2 R l) 1).val = 128 * (2 * n + 1) + l.val := by
        show 128 * (2 * n + 1) + 1 * l.val = _; omega
      unfold spread
      simp only [e0, e1, show (128 * (2 * n + 1) + l.val) % 2 = l.val % 2 by omega]
      split
      · rw [xCols_apply]; congr 3; apply Fin.ext; show 128 * n + (64 + l.val / 2) = (128 * (2 * n + 1) + l.val) / 2; omega
      · rfl
    rcases List.mem_cons.mp hp with rfl | hp
    · obtain ⟨R, l, rfl⟩ : ∃ (R : Fin 16) (l : Fin 128), x = ix2 R l := ⟨x 0, x 1, funext fun a => by match a with | 0 => rfl | 1 => rfl⟩
      refine (even_apply t _ R l).trans ?_
      have e0 : ((Rect.unit (s := S16x5120) ![0, 128 * (2 * n)] S16x128.size (colsIn (by omega) 16)).emb (ix2 R l) 0).val = R.val := by
        show 0 + 1 * R.val = R.val; omega
      have e1 : ((Rect.unit (s := S16x5120) ![0, 128 * (2 * n)] S16x128.size (colsIn (by omega) 16)).emb (ix2 R l) 1).val = 128 * (2 * n) + l.val := by
        show 128 * (2 * n) + 1 * l.val = _; omega
      unfold spread
      simp only [e0, e1, show (128 * (2 * n) + l.val) % 2 = l.val % 2 by omega]
      split
      · rw [xCols_apply]; congr 3; apply Fin.ext; show 128 * n + l.val / 2 = (128 * (2 * n) + l.val) / 2; omega
      · rfl
    · exact spreadPieces_sound n _ p hp x

theorem spreadPieces_cover : ∀ (n : ℕ) (h : n ≤ 20) (R : Fin 16) (j : Fin 5120), j.val < 256 * n →
    ∃ p ∈ spreadPieces c t f n h, (ix2 R j : S16x5120.Idx) ∈ p.1.set
  | 0, _, _, _, hj => absurd hj (Nat.not_lt_zero _)
  | n + 1, h, R, j, hj => by
    by_cases h0 : j.val < 256 * n
    · obtain ⟨p, hp, hm⟩ := spreadPieces_cover n (Nat.le_of_lt h) R j h0
      exact ⟨p, List.mem_cons_of_mem _ (List.mem_cons_of_mem _ hp), hm⟩
    by_cases h1 : j.val < 256 * n + 128
    · refine ⟨_, List.mem_cons_of_mem _ List.mem_cons_self, ?_⟩
      refine (Rect.mem_set_unit (inb := colsIn (by omega) 16)).mpr fun a => ?_
      match a with
      | 0 => exact ⟨Nat.zero_le _, by show R.val < 0 + 16; omega⟩
      | 1 => exact ⟨by show 128 * (2 * n) ≤ j.val; omega, by show j.val < 128 * (2 * n) + 128; omega⟩
    · refine ⟨_, List.mem_cons_self, ?_⟩
      refine (Rect.mem_set_unit (inb := colsIn (by omega) 16)).mpr fun a => ?_
      match a with
      | 0 => exact ⟨Nat.zero_le _, by show R.val < 0 + 16; omega⟩
      | 1 => exact ⟨by show 128 * (2 * n + 1) ≤ j.val; omega, by show j.val < 128 * (2 * n + 1) + 128; omega⟩

end Pieces

set_option maxHeartbeats 2000000 in
set_option maxRecDepth 65536 in
theorem spreadPieces_eq (c : Dev nD) (arg1 : Memref sig .tc .smem S1 .f32) (ft : Bf (F := Ideal) c arg1) (fx : Bf (F := Ideal) c xH) (x0 : Bf (F := Ideal) c xV) :
    bodyRun.sl.Hl_40 c arg1 ft fx x0 = spreadPieces c (bodyRun.sl.r c arg1 ft) (View.write (Elt Ideal) xV.view x0 (bodyRun.sl.dma0 c fx) Finset.univ) 20 (Nat.le_refl _) := rfl

/-- The operand's buffer after its stores. -/
theorem lhs_apply (c : Dev nD) (arg1 : Memref sig .tc .smem S1 .f32) (ft : Bf (F := Ideal) c arg1) (fx : Bf (F := Ideal) c xH) (x0 : Bf (F := Ideal) c xV)
    (R : Fin 16) (j : Fin 5120) :
    (lhsV.view.writes (Elt Ideal) lhsV.view.junk (bodyRun.sl.Hl_40 c arg1 ft fx x0) : Bf (F := Ideal) c lhsV) (ix2 R j)
      = spread (bodyRun.sl.r c arg1 ft) fx R j := by
  have e := spreadPieces_eq c arg1 ft fx x0
  have hx : View.write (Elt Ideal) xV.view x0 (bodyRun.sl.dma0 c fx) Finset.univ = fx := View.write_whole_univ _ _ _
  rw [e]
  have h := View.read_writes_junk_apply_eq_canon (Val := Elt Ideal) lhsV.view (ix2 R j) (spreadPieces c (bodyRun.sl.r c arg1 ft) (View.write (Elt Ideal) xV.view x0 (bodyRun.sl.dma0 c fx) Finset.univ) 20 (Nat.le_refl _))
  refine h.trans ?_
  rw [hx]
  exact View.canon_apply_of_pieces (fun i => spread (bodyRun.sl.r c arg1 ft) fx (i 0) (i 1)) _ (spreadPieces_sound c _ fx 20 _) (ix2 R j)
    (spreadPieces_cover c _ fx 20 _ R j j.isLt)

end Cert.KernelIdeal.Hand

end
-- ==== Proof.Value.Group.lean ====
module

public import proofs.«01_k».proof.Proof.Value.Chain
public import proofs.«01_k».proof.Proof.Value.Tile
public import proofs.«01_k».proof.Proof.Value.Words
public import proofs.«01_k».proof.Proof.Value.Spread
public import proofs.«01_k».proof.Proof.Ideal.Body

@[expose] public section

noncomputable section

namespace Cert.KernelIdeal.Hand

open Cert.KernelIdeal Cert.KernelIdeal.Gen
open Idealize.ShloMosaic Idealize.ShloMosaic.TcCoe Idealize.ShloMosaic.Tactic

/-! ### One trip's states, group by group -/

section Trip

variable (c : Dev nD) (k : Fin k0_t1_loop.trips) (s : Mxu Ideal)
  (fl : Bf (F := Ideal) c lhsV) (fgc : Bf (F := Ideal) c gcV) (fuc : Bf (F := Ideal) c ucV) (fgs : Bf (F := Ideal) c gsV) (fus : Bf (F := Ideal) c usV)

/-- Group `g`'s rows of a code block. -/
def offCodes (g : ℕ) : Fin 3 → ℕ := ![k0_off10 k 0, 128 * g, 0]

theorem offCodes_eq (g : ℕ) : offCodes k g = ![k.val, 128 * g, 0] := by
  unfold offCodes; rw [k0_off10_eq]; rfl

theorem offCodes_inb {g : ℕ} (h : g < 20) : ∀ a, offCodes k g a + S1x128x256.size a ≤ S20x2560x256.size a := by
  have hk : k.val < 20 := k.isLt
  rw [offCodes_eq]
  intro a
  match a with
  | 0 => show k.val + 1 ≤ 20; omega
  | 1 => show 128 * g + 128 ≤ 2560; omega
  | 2 => show 0 + 256 ≤ 256; omega

theorem offWords_inb {g : ℕ} (h : g < 20) : ∀ a, (![g, 0, 0] : Fin 3 → ℕ) a + S1x2x256.size a ≤ S20x2x256.size a := fun a =>
  match a with
  | 0 => by show g + 1 ≤ 20; omega
  | 1 => by show 0 + 2 ≤ 2; omega
  | 2 => by show 0 + 256 ≤ 256; omega

/-- Group `g`'s columns of the operand. -/
abbrev lhsAt (g : ℕ) (h : g < 20) : FVec Ideal (Mxu.STile 16) .bf16 :=
  View.readAt (Elt Ideal) lhsV.view (Rect.unit (s := S16x5120) ![0, 256 * g] S16x256.size (colsIn (by omega) 16)).toLoadRect fl

/-- Group `g`'s gate tile and up tile. -/
abbrev gateTile (g : ℕ) (h : g < 20) : FVec Ideal (Mxu.STile 256) .bf16 :=
  k0_pay22 (View.readAt (Elt Ideal) gcV.view (Rect.unit (s := S20x2560x256) (offCodes k g) S1x128x256.size (offCodes_inb k h)).toLoadRect fgc)
    (gwV.view.readCov (tripRun.sl.Hgw_2 c k fgs) (Rect.unit (s := S20x2x256) ![g, 0, 0] S1x2x256.size (offWords_inb h)).toLoadRect)
abbrev upTile (g : ℕ) (h : g < 20) : FVec Ideal (Mxu.STile 256) .bf16 :=
  k0_pay22 (View.readAt (Elt Ideal) ucV.view (Rect.unit (s := S20x2560x256) (offCodes k g) S1x128x256.size (offCodes_inb k h)).toLoadRect fuc)
    (uwV.view.readCov (tripRun.sl.Huw_2 c k fus) (Rect.unit (s := S20x2x256) ![g, 0, 0] S1x2x256.size (offWords_inb h)).toLoadRect)

/-- The state after `n` groups. -/
def states : (n : ℕ) → n ≤ 20 → Mxu Ideal
  | 0, _ => s
  | n + 1, h => group (states n (Nat.le_of_lt h)) ⟨n % 2, Nat.mod_lt _ (by decide)⟩ (lhsAt c fl n h) (gateTile c k fgc fgs n h) (upTile c k fuc fus n h)

set_option maxHeartbeats 4000000 in
set_option maxRecDepth 65536 in
theorem states_eq : tripRun.sl.k0_mxu83 c k s fl fgc fuc fgs fus = states c k s fl fgc fuc fgs fus 20 (Nat.le_refl _) := rfl

/-- Operands and tiles by group number. -/
def lhsOf (g : ℕ) : FVec Ideal (Mxu.STile 16) .bf16 := if h : g < 20 then lhsAt c fl g h else fun _ => 0
def tileOf (q : Fin 2) (g : ℕ) : FVec Ideal (Mxu.STile 256) .bf16 :=
  if h : g < 20 then (match q with | 0 => gateTile c k fgc fgs g h | 1 => upTile c k fuc fus g h) else fun _ => 0

theorem states_after (hs : ∀ q r, s.reg q r = none) (hl : ∀ q R, ¬ s.live q R = true) :
    ∀ (n : ℕ) (h : n ≤ 20), After (lhsOf c fl) (tileOf c k fgc fuc fgs fus) (states c k s fl fgc fuc fgs fus n h) n
  | 0, _ => After.zero hs hl
  | n + 1, h => (states_after hs hl n (Nat.le_of_lt h)).step _ (by unfold lhsOf; rw [dif_pos (show n < 20 from h)]) (by unfold tileOf; rw [dif_pos (show n < 20 from h)]) (by unfold tileOf; rw [dif_pos (show n < 20 from h)])

theorem states_live (n : ℕ) (h : n + 1 ≤ 20) (q : Fin 2) (R : Fin 16) :
    (states c k s fl fgc fuc fgs fus (n + 1) h).live q (Mxu.row fits_0_16 R) = true := by
  unfold states group
  match q with
  | 1 => rw [Mxu.live_accLhs_row]
  | 0 => rw [Mxu.live_accLhs, if_neg (fun e => absurd e.1 (by decide)), Mxu.live_accLhs_row]

theorem gate_read (hs : ∀ q r, s.reg q r = none) (hl : ∀ q R, ¬ s.live q R = true) (R : Fin 16) (l : Fin 256) :
    tripRun.sl.v2559_r0 c k s fl fgc fuc fgs fus (ix2 R l) = ∑ g ∈ Finset.range 20, pass (lhsOf c fl g) (tileOf c k fgc fuc fgs fus 0 g) R l := by
  show (tripRun.sl.k0_mxu83 c k s fl fgc fuc fgs fus).read 0 0 fits_0_16 (ix2 R l) = _
  rw [states_eq]
  exact (states_after c k s fl fgc fuc fgs fus hs hl 20 (Nat.le_refl _)).read 0 (states_live c k s fl fgc fuc fgs fus 19 (Nat.le_refl _) 0) R l

theorem up_read (hs : ∀ q r, s.reg q r = none) (hl : ∀ q R, ¬ s.live q R = true) (R : Fin 16) (l : Fin 256) :
    tripRun.sl.v2560_r0 c k s fl fgc fuc fgs fus (ix2 R l) = ∑ g ∈ Finset.range 20, pass (lhsOf c fl g) (tileOf c k fgc fuc fgs fus 1 g) R l := by
  show ((tripRun.sl.k0_mxu83 c k s fl fgc fuc fgs fus).pop 0 0 16 fits_0_16).read 1 0 fits_0_16 (ix2 R l) = _
  rw [Mxu.read_pop_ne _ _ _ _ _ _ _ (Or.inl (by decide)), states_eq]
  exact (states_after c k s fl fgc fuc fgs fus hs hl 20 (Nat.le_refl _)).read 1 (states_live c k s fl fgc fuc fgs fus 19 (Nat.le_refl _) 1) R l

/-! ### The loads -/

theorem lhsOf_apply (g : Fin 20) (R : Fin 16) (i : Fin 256) : lhsOf c fl g.val (ix2 R i) = fl (ix2 R ⟨256 * g.val + i.val, by omega⟩) := by
  unfold lhsOf
  rw [dif_pos g.isLt]
  refine congrArg fl (funext fun a => Fin.ext ?_)
  match a with
  | 0 => show 0 + 1 * R.val = R.val; omega
  | 1 => show 256 * g.val + 1 * i.val = 256 * g.val + i.val; omega

/-- A code block's byte. -/
theorem codes_apply (f : S20x2560x256.Idx → BitVec 8) (g : Fin 20) (h : Fin 128) (l : Fin 256) :
    f ((Rect.unit (s := S20x2560x256) (offCodes k g.val) S1x128x256.size (offCodes_inb k g.isLt)).emb (ix3 0 h l))
      = f (ix3 ⟨k.val, k.isLt⟩ ⟨128 * g.val + h.val, by omega⟩ l) := by
  refine congrArg f (funext fun a => Fin.ext ?_)
  have e := offCodes_eq k g.val
  match a with
  | 0 => show offCodes k g.val 0 + 1 * 0 = k.val; rw [e]; show k.val + 1 * 0 = k.val; omega
  | 1 => show offCodes k g.val 1 + 1 * h.val = _; rw [e]; show 128 * g.val + 1 * h.val = 128 * g.val + h.val; omega
  | 2 => show offCodes k g.val 2 + 1 * l.val = _; rw [e]; show 0 + 1 * l.val = l.val; omega

theorem wordsIdx (g : Fin 20) (p : Fin 2) (l : Fin 256) :
    (Rect.unit (s := S20x2x256) ![g.val, 0, 0] S1x2x256.size (offWords_inb g.isLt)).emb (ix3 0 p l) = ix3 g p l := by
  refine funext fun a => Fin.ext ?_
  match a with
  | 0 => show g.val + 1 * 0 = g.val; omega
  | 1 => show 0 + 1 * p.val = p.val; omega
  | 2 => show 0 + 1 * l.val = l.val; omega

set_option maxHeartbeats 2000000 in
theorem gate_pieces : tripRun.sl.Hgw_2 c k fgs = wordPieces (View.readAt (Elt Ideal) gsV.view (Rect.unit (s := S20x20x512) (k0_off6 k) S1x20x128.size (k0_off6_inb k)).toLoadRect fgs) (View.readAt (Elt Ideal) gsV.view (Rect.unit (s := S20x20x512) (k0_off7 k) S1x20x128.size (k0_off7_inb k)).toLoadRect fgs) (View.readAt (Elt Ideal) gsV.view (Rect.unit (s := S20x20x512) (k0_off8 k) S1x20x128.size (k0_off8_inb k)).toLoadRect fgs) (View.readAt (Elt Ideal) gsV.view (Rect.unit (s := S20x20x512) (k0_off9 k) S1x20x128.size (k0_off9_inb k)).toLoadRect fgs) := rfl

theorem gate_words (g : Fin 20) (p : Fin 2) (l : Fin 256) :
    gwV.view.readCov (tripRun.sl.Hgw_2 c k fgs) (Rect.unit (s := S20x2x256) ![g.val, 0, 0] S1x2x256.size (offWords_inb g.isLt)).toLoadRect (ix3 0 p l)
      = fgs (ix3 ⟨k.val, k.isLt⟩ g ⟨2 * l.val + p.val, by omega⟩) := by
  rw [View.readCov_eq_canon', gate_pieces]
  refine Eq.trans (congrArg _ (wordsIdx g p l)) (wordPieces_apply k fgs _ _ _ _ (fun g l => ?_) (fun g l => ?_) (fun g l => ?_) (fun g l => ?_) g p l)
  · exact (scaleLoad k fgs 0 (k0_off6_eq k) (k0_off6_inb k) g l (by omega)).trans (by congr 3; omega)
  · exact scaleLoad k fgs 128 (k0_off7_eq k) (k0_off7_inb k) g l (by omega)
  · exact scaleLoad k fgs 256 (k0_off8_eq k) (k0_off8_inb k) g l (by omega)
  · exact scaleLoad k fgs 384 (k0_off9_eq k) (k0_off9_inb k) g l (by omega)

set_option maxHeartbeats 2000000 in
theorem up_pieces : tripRun.sl.Huw_2 c k fus = wordPieces (View.readAt (Elt Ideal) usV.view (Rect.unit (s := S20x20x512) (k0_off6 k) S1x20x128.size (k0_off6_inb k)).toLoadRect fus) (View.readAt (Elt Ideal) usV.view (Rect.unit (s := S20x20x512) (k0_off7 k) S1x20x128.size (k0_off7_inb k)).toLoadRect fus) (View.readAt (Elt Ideal) usV.view (Rect.unit (s := S20x20x512) (k0_off8 k) S1x20x128.size (k0_off8_inb k)).toLoadRect fus) (View.readAt (Elt Ideal) usV.view (Rect.unit (s := S20x20x512) (k0_off9 k) S1x20x128.size (k0_off9_inb k)).toLoadRect fus) := rfl

theorem up_words (g : Fin 20) (p : Fin 2) (l : Fin 256) :
    uwV.view.readCov (tripRun.sl.Huw_2 c k fus) (Rect.unit (s := S20x2x256) ![g.val, 0, 0] S1x2x256.size (offWords_inb g.isLt)).toLoadRect (ix3 0 p l)
      = fus (ix3 ⟨k.val, k.isLt⟩ g ⟨2 * l.val + p.val, by omega⟩) := by
  rw [View.readCov_eq_canon', up_pieces]
  refine Eq.trans (congrArg _ (wordsIdx g p l)) (wordPieces_apply k fus _ _ _ _ (fun g l => ?_) (fun g l => ?_) (fun g l => ?_) (fun g l => ?_) g p l)
  · exact (scaleLoad k fus 0 (k0_off6_eq k) (k0_off6_inb k) g l (by omega)).trans (by congr 3; omega)
  · exact scaleLoad k fus 128 (k0_off7_eq k) (k0_off7_inb k) g l (by omega)
  · exact scaleLoad k fus 256 (k0_off8_eq k) (k0_off8_inb k) g l (by omega)
  · exact scaleLoad k fus 384 (k0_off9_eq k) (k0_off9_inb k) g l (by omega)

theorem gate_apply (g : Fin 20) (i l : Fin 256) : tileOf c k fgc fuc fgs fus 0 g.val (ix2 i l)
    = weight (fgc (ix3 ⟨k.val, k.isLt⟩ ⟨128 * g.val + i.val / 2, by omega⟩ l)) (i.val % 2)
        (fgs (ix3 ⟨k.val, k.isLt⟩ g ⟨2 * l.val + i.val % 2, by omega⟩)) := by
  unfold tileOf
  rw [dif_pos g.isLt]
  refine (tile_apply _ _ i l).trans ?_
  rw [gate_words c k fgs g ⟨i.val % 2, by omega⟩ l]
  exact congrArg (fun b => weight b _ _) (codes_apply k fgc g ⟨i.val / 2, by omega⟩ l)

theorem up_apply (g : Fin 20) (i l : Fin 256) : tileOf c k fgc fuc fgs fus 1 g.val (ix2 i l)
    = weight (fuc (ix3 ⟨k.val, k.isLt⟩ ⟨128 * g.val + i.val / 2, by omega⟩ l)) (i.val % 2)
        (fus (ix3 ⟨k.val, k.isLt⟩ g ⟨2 * l.val + i.val % 2, by omega⟩)) := by
  unfold tileOf
  rw [dif_pos g.isLt]
  refine (tile_apply _ _ i l).trans ?_
  rw [up_words c k fus g ⟨i.val % 2, by omega⟩ l]
  exact congrArg (fun b => weight b _ _) (codes_apply k fuc g ⟨i.val / 2, by omega⟩ l)

end Trip

end Cert.KernelIdeal.Hand

end
-- ==== Proof.Value.Sum.lean ====
module

public import proofs.«01_k».proof.Proof.Value.Tile
public import proofs.«01_k».proof.Proof.Value.Spread

@[expose] public section

noncomputable section

namespace Cert.KernelIdeal.Hand

open Cert.KernelIdeal Cert.KernelIdeal.Gen
open Idealize.ShloMosaic Idealize.ShloMosaic.TcCoe Idealize.ShloMosaic.Tactic

/-- One result column of the product, unrounded: row `r` of the kept activations against column `m` of block `k`. -/
def proj (t : EReal) (x : S5x2560.Idx → EReal) (f : S20x2560x256.Idx → BitVec 8) (w : S20x20x512.Idx → EReal) (k : Fin 20) (r : Fin 5) (m : Fin 512) : EReal :=
  ∑ d : Fin 2560, kept t (x (ix2 r d)) * weight (f (ix3 k d ⟨m.val / 2, by omega⟩)) (m.val % 2) (w (ix3 k ⟨d.val / 128, by omega⟩ m))

/-- The columns of the other half, and rows, contribute nothing. -/
theorem sum_spread (t : EReal) (x : S5x2560.Idx → EReal) (f : S20x2560x256.Idx → BitVec 8) (w : S20x20x512.Idx → EReal) (k : Fin 20)
    (r : Fin 5) (p : Fin 2) (l : Fin 256) :
    ∑ g : Fin 20, ∑ i : Fin 256, spread t x (⟨r.val + 8 * p.val, by omega⟩ : Fin 16) (⟨256 * g.val + i.val, by omega⟩ : Fin 5120)
        * weight (f (ix3 k ⟨128 * g.val + i.val / 2, by omega⟩ l)) (i.val % 2) (w (ix3 k g ⟨2 * l.val + i.val % 2, by omega⟩))
      = proj t x f w k r ⟨2 * l.val + p.val, by omega⟩ := by
  unfold proj
  rw [← Equiv.sum_comp (finProdFinEquiv (m := 20) (n := 128)), Fintype.sum_prod_type]
  refine Finset.sum_congr rfl fun g _ => ?_
  rw [← Equiv.sum_comp (finProdFinEquiv (m := 128) (n := 2)), Fintype.sum_prod_type]
  refine Finset.sum_congr rfl fun h _ => ?_
  have e : ∀ q : Fin 2, (finProdFinEquiv (m := 128) (n := 2) (h, q)).val = q.val + 2 * h.val := fun q => rfl
  have e' : (finProdFinEquiv (m := 20) (n := 128) (g, h)).val = h.val + 128 * g.val := rfl
  rw [Finset.sum_eq_single p (fun q _ hq => ?_) (fun hp => absurd (Finset.mem_univ _) hp)]
  · have hs : spread t x (⟨r.val + 8 * p.val, by omega⟩ : Fin 16) (⟨256 * g.val + (finProdFinEquiv (m := 128) (n := 2) (h, p)).val, by omega⟩ : Fin 5120)
        = kept t (x (ix2 r (finProdFinEquiv (m := 20) (n := 128) (g, h)))) := by
      unfold spread
      have e0 := e p
      rw [dif_pos ⟨show (r.val + 8 * p.val) % 8 < 5 by omega, show (r.val + 8 * p.val) / 8 = (256 * g.val + (finProdFinEquiv (m := 128) (n := 2) (h, p)).val) % 2 by omega⟩]
      congr 2
      refine funext fun a => Fin.ext ?_
      match a with
      | 0 => show (r.val + 8 * p.val) % 8 = r.val; omega
      | 1 => show (256 * g.val + (finProdFinEquiv (m := 128) (n := 2) (h, p)).val) / 2 = (finProdFinEquiv (m := 20) (n := 128) (g, h)).val; rw [e, e']; omega
    rw [hs]
    congr 1
    have e1 : (finProdFinEquiv (m := 128) (n := 2) (h, p)).val % 2 = p.val := by rw [e]; omega
    have e2 : (2 * l.val + p.val) % 2 = p.val := by omega
    congr 1
    · congr 1
      refine funext fun a => Fin.ext ?_
      match a with
      | 0 => rfl
      | 1 => show 128 * g.val + (finProdFinEquiv (m := 128) (n := 2) (h, p)).val / 2 = (finProdFinEquiv (m := 20) (n := 128) (g, h)).val; rw [e, e']; omega
      | 2 => show l.val = (2 * l.val + p.val) / 2; omega
    · rw [e1, e2]
    · congr 1
      refine funext fun a => Fin.ext ?_
      match a with
      | 0 => rfl
      | 1 => show g.val = (finProdFinEquiv (m := 20) (n := 128) (g, h)).val / 128; rw [e']; omega
      | 2 => show 2 * l.val + (finProdFinEquiv (m := 128) (n := 2) (h, p)).val % 2 = 2 * l.val + p.val; rw [e1]
  · have hs : spread t x (⟨r.val + 8 * p.val, by omega⟩ : Fin 16) (⟨256 * g.val + (finProdFinEquiv (m := 128) (n := 2) (h, q)).val, by omega⟩ : Fin 5120) = 0 := by
      unfold spread
      rw [dif_neg ?_]
      rintro ⟨-, h2⟩
      dsimp only at h2
      rw [e] at h2
      exact hq (Fin.ext (by omega))
    rw [hs, zero_mul]

end Cert.KernelIdeal.Hand

end
-- ==== Proof.Value.Out.lean ====
module

public import proofs.«01_k».proof.Proof.Value.Lanes
public import Idealize.ShloMosaic.Lib.Pointwise
public import Idealize.ShloMosaic.Lib.Bf16Pair

@[expose] public section

noncomputable section

namespace Cert.KernelIdeal.Hand

open Cert.KernelIdeal Cert.KernelIdeal.Gen
open Idealize.ShloMosaic Idealize.ShloMosaic.TcCoe Idealize.ShloMosaic.Tactic

theorem first_apply (y : FVec Ideal S16x256 .f32) (r : Fin 5) (l : Fin 256) :
    k0_pay115 (F := Ideal) (k0_pay114
        (extractStridedSlice S8x128 ![0, 0] (extractStridedSlice S16x128 ![0, 0] y slices_S16x256_o0_0_S16x128) slices_S16x128_o0_0_S8x128)
        (extractStridedSlice S8x128 ![8, 0] (extractStridedSlice S16x128 ![0, 0] y slices_S16x256_o0_0_S16x128) slices_S16x128_o8_0_S8x128)
        (iota Kind.tc S8x128 32 [1] iota_S8x128_d1_w32) k0_pay112 k0_pay113 0#32) (ix2 r l)
      = y (ix2 ⟨r.val + 8 * (l.val % 2), by omega⟩ ⟨l.val / 2, by omega⟩) := by
  pointwise [k0_pay115, k0_pay114, k0_pay112, k0_pay113]
  split
  · rename_i h
    simp only [half_zero h, odd_eq h, sel_if]
    split
    · congr 3 <;> omega
    · congr 3 <;> omega
  · rename_i h
    simp only [half_mid (show l.val - 128 < 128 by omega), odd_eq (show l.val - 128 < 128 by omega), sel_if]
    split
    · congr 3 <;> omega
    · congr 3 <;> omega

theorem second_apply (y : FVec Ideal S16x256 .f32) (r : Fin 5) (l : Fin 256) :
    k0_pay215 (F := Ideal) (k0_pay117 y) k0_pay119 (k0_pay120 y) k0_pay121 (k0_pay122 y) k0_pay123 (ix2 r l)
      = y (ix2 ⟨r.val + 8 * (l.val % 2), by omega⟩ ⟨128 + l.val / 2, by omega⟩) := by
  pointwise [k0_pay215, k0_pay117, k0_pay119, k0_pay116, k0_pay118, k0_pay120, k0_pay121, k0_pay122, k0_pay123]
  split
  · rename_i h
    simp only [half_zero h, odd_eq h, sel_if]
    split
    · congr 3 <;> omega
    · congr 3 <;> omega
  · rename_i h
    simp only [half_mid (show l.val - 128 < 128 by omega), odd_eq (show l.val - 128 < 128 by omega), sel_if]
    split
    · congr 3 <;> omega
    · congr 3 <;> omega

end Cert.KernelIdeal.Hand

end
-- ==== Proof.Value.TripOut.lean ====
module

public import proofs.«01_k».proof.Proof.Value.Group
public import proofs.«01_k».proof.Proof.Value.Sum
public import proofs.«01_k».proof.Proof.Value.Out

@[expose] public section

noncomputable section

namespace Cert.KernelIdeal.Hand

open Cert.KernelIdeal Cert.KernelIdeal.Gen
open Idealize.ShloMosaic Idealize.ShloMosaic.TcCoe Idealize.ShloMosaic.Tactic

/-- One result column: the gate product through the activation, times the up product. -/
def res (t : EReal) (x : S5x2560.Idx → EReal) (fg fu : S20x2560x256.Idx → BitVec 8) (wg wu : S20x20x512.Idx → EReal) (k : Fin 20) (r : Fin 5) (m : Fin 512) : EReal :=
  proj t x fg wg k r m * Ideal.logistic (proj t x fg wg k r m) * proj t x fu wu k r m

theorem act_apply (G U : FVec Ideal S16x256 .f32) (R : Fin 16) (l : Fin 256) :
    k0_pay108 (F := Ideal) G U (ix2 R l) = G (ix2 R l) * Ideal.logistic (G (ix2 R l)) * U (ix2 R l) := by
  pointwise [k0_pay108]

/-- The second half of a block's results. -/
abbrev secondOf (y : FVec Ideal S16x256 .f32) : FVec Ideal S5x256 .bf16 :=
  k0_pay215 (F := Ideal) (k0_pay117 y) k0_pay119 (k0_pay120 y) k0_pay121 (k0_pay122 y) k0_pay123

/-- The two stores of a block's results, the last first. -/
abbrev outPieces (k : Fin k0_t1_loop.trips) (A B : FVec Ideal S5x256 .bf16) : List (View.Piece (Elt Ideal) S5x10240 .bf16) :=
  [⟨Rect.unit (s := S5x10240) (k0_off30 k 256#32) S5x256.size (k0_off30_inb k 1), B⟩,
   ⟨Rect.unit (s := S5x10240) (k0_off30 k 0#32) S5x256.size (k0_off30_inb k 0), A⟩]

section Trip

variable (c : Dev nD) (k : Fin k0_t1_loop.trips) (s : Mxu Ideal) (hs : ∀ q r, s.reg q r = none) (hl : ∀ q R, ¬ s.live q R = true)
  (fl : Bf (F := Ideal) c lhsV) (fgc : Bf (F := Ideal) c gcV) (fuc : Bf (F := Ideal) c ucV) (fgs : Bf (F := Ideal) c gsV) (fus : Bf (F := Ideal) c usV)
  (t : EReal) (x : S5x2560.Idx → EReal) (hf : ∀ (R : Fin 16) (j : Fin 5120), fl (ix2 R j) = spread t x R j)

set_option maxHeartbeats 2000000 in
omit hl hf in
include hs in
theorem outPieces_eq : (tripRun c k s hs fl fgc fuc fgs fus).1.2
    = outPieces k (tripRun.sl.v2623_r0 c k s fl fgc fuc fgs fus) (secondOf (tripRun.sl.r_109 c k s fl fgc fuc fgs fus)) := rfl

include hs hl hf

theorem gate_proj (r : Fin 5) (p : Fin 2) (l : Fin 256) :
    tripRun.sl.v2559_r0 c k s fl fgc fuc fgs fus (ix2 ⟨r.val + 8 * p.val, by omega⟩ l)
      = proj t x fgc fgs ⟨k.val, k.isLt⟩ r ⟨2 * l.val + p.val, by omega⟩ := by
  rw [gate_read c k s fl fgc fuc fgs fus hs hl, ← sum_spread, Finset.sum_range]
  refine Finset.sum_congr rfl fun g _ => Finset.sum_congr rfl fun i _ => ?_
  rw [lhsOf_apply, gate_apply, hf]

theorem up_proj (r : Fin 5) (p : Fin 2) (l : Fin 256) :
    tripRun.sl.v2560_r0 c k s fl fgc fuc fgs fus (ix2 ⟨r.val + 8 * p.val, by omega⟩ l)
      = proj t x fuc fus ⟨k.val, k.isLt⟩ r ⟨2 * l.val + p.val, by omega⟩ := by
  rw [up_read c k s fl fgc fuc fgs fus hs hl, ← sum_spread, Finset.sum_range]
  refine Finset.sum_congr rfl fun g _ => Finset.sum_congr rfl fun i _ => ?_
  rw [lhsOf_apply, up_apply, hf]

theorem act_res (r : Fin 5) (p : Fin 2) (l : Fin 256) (m : Fin 512) (hm : m.val = 2 * l.val + p.val) :
    tripRun.sl.r_109 c k s fl fgc fuc fgs fus (ix2 ⟨r.val + 8 * p.val, by omega⟩ l) = res t x fgc fuc fgs fus ⟨k.val, k.isLt⟩ r m := by
  have em : m = ⟨2 * l.val + p.val, by omega⟩ := Fin.ext hm
  rw [em]
  refine (act_apply _ _ _ _).trans ?_
  rw [gate_proj c k s hs hl fl fgc fuc fgs fus t x hf, up_proj c k s hs hl fl fgc fuc fgs fus t x hf]
  rfl

theorem first_res (r : Fin 5) (l : Fin 256) :
    tripRun.sl.v2623_r0 c k s fl fgc fuc fgs fus (ix2 r l) = res t x fgc fuc fgs fus ⟨k.val, k.isLt⟩ r ⟨l.val, by omega⟩ :=
  (first_apply (tripRun.sl.r_109 c k s fl fgc fuc fgs fus) r l).trans
    (act_res c k s hs hl fl fgc fuc fgs fus t x hf r ⟨l.val % 2, by omega⟩ ⟨l.val / 2, by omega⟩ _ (by dsimp only; omega))

theorem second_res (r : Fin 5) (l : Fin 256) :
    secondOf (tripRun.sl.r_109 c k s fl fgc fuc fgs fus) (ix2 r l) = res t x fgc fuc fgs fus ⟨k.val, k.isLt⟩ r ⟨256 + l.val, by omega⟩ :=
  (second_apply (tripRun.sl.r_109 c k s fl fgc fuc fgs fus) r l).trans
    (act_res c k s hs hl fl fgc fuc fgs fus t x hf r ⟨l.val % 2, by omega⟩ ⟨128 + l.val / 2, by omega⟩ _ (by dsimp only; omega))

end Trip

end Cert.KernelIdeal.Hand

end
-- ==== Proof.Value.Result.lean ====
module

public import proofs.«01_k».proof.Proof.Value.TripOut
public import Idealize.ShloMosaic.Lib.WritesUnit

@[expose] public section

noncomputable section

namespace Cert.KernelIdeal.Hand

open Cert.KernelIdeal Cert.KernelIdeal.Gen
open Idealize.ShloMosaic Idealize.ShloMosaic.TcCoe Idealize.ShloMosaic.Tactic

section Result

variable (c : Dev nD) (fl : Bf (F := Ideal) c lhsV) (fgc : Bf (F := Ideal) c gcV) (fuc : Bf (F := Ideal) c ucV) (fgs : Bf (F := Ideal) c gsV) (fus : Bf (F := Ideal) c usV)
  (y0 : Bf (F := Ideal) c yV) (t : EReal) (x : S5x2560.Idx → EReal) (hf : ∀ (R : Fin 16) (j : Fin 5120), fl (ix2 R j) = spread t x R j)

theorem off30_first (k : Fin k0_t1_loop.trips) : k0_off30 k 0#32 = ![0, 512 * k.val] := k0_off30_eq k 0
theorem off30_second (k : Fin k0_t1_loop.trips) : k0_off30 k 256#32 = ![0, 512 * k.val + 256] := k0_off30_eq k 1

/-- What two stores of a block leave at an element. -/
theorem writes_apply (f : Bf (F := Ideal) c yV) (k : Fin k0_t1_loop.trips) (A B : FVec Ideal S5x256 .bf16) (r : Fin 5) (j : Fin 10240) :
    (yV.view.writes (Elt Ideal) f (outPieces k A B) : Bf c yV) (ix2 r j)
      = if h : 512 * k.val ≤ j.val ∧ j.val < 512 * k.val + 512 then
          (if h' : j.val - 512 * k.val < 256 then A (ix2 r ⟨j.val - 512 * k.val, h'⟩) else B (ix2 r ⟨j.val - 512 * k.val - 256, by omega⟩))
        else f (ix2 r j) := by
  show yV.view.read (Elt Ideal) (yV.view.writes (Elt Ideal) f (outPieces k A B)) (ix2 r j) = _
  have hk : k.val < 20 := k.isLt
  by_cases h : 512 * k.val ≤ j.val ∧ j.val < 512 * k.val + 512
  · rw [dif_pos h]
    by_cases h' : j.val - 512 * k.val < 256
    · rw [dif_pos h', View.read_writes_cons_unit_of_not_mem _ _ _ _ _ _ (off30_second k) 1 (by show j.val < 512 * k.val + 256 ∨ 512 * k.val + 256 + 256 ≤ j.val; omega)]
      refine View.read_writes_cons_unit_of_mem (off := k0_off30 k 0#32) yV.view f (k0_off30_inb k 0) A [] (ix2 r j) (ix2 r ⟨j.val - 512 * k.val, h'⟩) (off30_first k) fun a => ?_
      match a with
      | 0 => show r.val = 0 + r.val; omega
      | 1 => show j.val = 512 * k.val + (j.val - 512 * k.val); omega
    · rw [dif_neg h']
      refine View.read_writes_cons_unit_of_mem (off := k0_off30 k 256#32) yV.view f (k0_off30_inb k 1) B _ (ix2 r j) (ix2 r ⟨j.val - 512 * k.val - 256, by omega⟩) (off30_second k) fun a => ?_
      match a with
      | 0 => show r.val = 0 + r.val; omega
      | 1 => show j.val = 512 * k.val + 256 + (j.val - 512 * k.val - 256); omega
  · rw [dif_neg h, View.read_writes_cons_unit_of_not_mem _ _ _ _ _ _ (off30_second k) 1 (by show j.val < 512 * k.val + 256 ∨ 512 * k.val + 256 + 256 ≤ j.val; omega),
      View.read_writes_cons_unit_of_not_mem _ _ _ _ _ _ (off30_first k) 1 (by show j.val < 512 * k.val ∨ 512 * k.val + 256 ≤ j.val; omega)]
    rfl

include hf

/-- Before trip `n` the first `512 n` columns of the result hold their values. -/
theorem yAt_apply : ∀ (n : ℕ) (hn : n ≤ 20) (r : Fin 5) (j : Fin 10240), j.val < 512 * n →
    yAt c fl fgc fuc fgs fus y0 n (ix2 r j) = res t x fgc fuc fgs fus ⟨j.val / 512, by omega⟩ r ⟨j.val % 512, by omega⟩
  | 0, _, r, j, h => absurd h (by omega)
  | n + 1, hn, r, j, h => by
    unfold yAt
    rw [dif_pos (show n < k0_t1_loop.trips from hn), outPieces_eq, writes_apply]
    by_cases hj : 512 * n ≤ j.val ∧ j.val < 512 * n + 512
    · rw [dif_pos hj]
      have e1 : j.val / 512 = n := by omega
      have e2 : j.val % 512 = j.val - 512 * n := by omega
      split
      · rw [first_res c _ _ (st c fl fgc fuc fgs fus n).2.1 (st c fl fgc fuc fgs fus n).2.2 fl fgc fuc fgs fus t x hf]
        exact congrArg₂ (fun a b => res t x fgc fuc fgs fus a r b) (Fin.ext e1.symm) (Fin.ext e2.symm)
      · rename_i h2
        rw [second_res c _ _ (st c fl fgc fuc fgs fus n).2.1 (st c fl fgc fuc fgs fus n).2.2 fl fgc fuc fgs fus t x hf]
        have h3 : ¬ j.val - 512 * n < 256 := h2
        have e3 : 256 + (j.val - 512 * n - 256) = j.val % 512 := by omega
        exact congrArg₂ (fun a b => res t x fgc fuc fgs fus a r b) (Fin.ext e1.symm) (Fin.ext e3)
    · rw [dif_neg hj]
      exact yAt_apply n (Nat.le_of_lt hn) r j (by omega)

end Result

end Cert.KernelIdeal.Hand

end
-- ==== Proof.Value.Ref.lean ====
module

public import proofs.«01_k».proof.Proof.Gen.ReferenceIdeal.Run
public import proofs.«01_k».proof.Proof.Value.Tile
public import proofs.«01_k».proof.Proof.Value.Spread
public import Idealize.ShloMosaic.Lib.Pointwise

@[expose] public section

noncomputable section

namespace Cert.ReferenceIdeal.Hand

open Cert.ReferenceIdeal Cert.ReferenceIdeal.Gen
open Idealize.ShloMosaic Idealize.ShloMosaic.TcCoe Idealize.ShloMosaic.Tactic
open Cert.KernelIdeal.Hand (kept weight nibble sel_if)

variable (X : FVec Ideal S5x1x2560 .bf16) (T : FVec Ideal S_ .f32) (C : IVec S2560x5120 8) (S : FVec Ideal S20x10240 .f32)

/-- The masked activations. -/
def masked : FVec Ideal S5x2560 .bf16 := (select (cmpf .ogt (extf .f32 (Host.absf (shapeCast _ X shapeCasts_S5x1x2560_S5x2560)) bitsLt_bf16_f32) (broadcastInDim S5x2560 ![] bcast_S_S5x2560 T)) (shapeCast _ X shapeCasts_S5x1x2560_S5x2560) (broadcastInDim S5x2560 ![] bcast_S_S5x2560 (constant S_ .bf16 0x0000#16)))

/-- The weights of the even columns, and of the odd ones. -/
def low : FVec Ideal S2560x5120 .bf16 := (mulf (sitofp .bf16 (select (cmpi .sge (andi (extui 32 C natLt_8_32) (broadcastInDim S2560x5120 ![] bcast_S_S2560x5120 (constantI S_ 32 15#32))) (broadcastInDim S2560x5120 ![] bcast_S_S2560x5120 (constantI S_ 32 8#32))) (subi (andi (extui 32 C natLt_8_32) (broadcastInDim S2560x5120 ![] bcast_S_S2560x5120 (constantI S_ 32 15#32))) (broadcastInDim S2560x5120 ![] bcast_S_S2560x5120 (constantI S_ 32 16#32))) (andi (extui 32 C natLt_8_32) (broadcastInDim S2560x5120 ![] bcast_S_S2560x5120 (constantI S_ 32 15#32))))) (truncf .bf16 (Host.slice S2560x5120 ![0, 0] ![1, 2] (shapeCast _ (broadcastInDim S20x128x10240 ![0, 2] bcast_S20x10240_S20x128x10240_0_2 S) shapeCasts_S20x128x10240_S2560x10240) slicesBy_S2560x10240_S2560x5120_0s1_0s2) bitsLt_bf16_f32))
def high : FVec Ideal S2560x5120 .bf16 := (mulf (sitofp .bf16 (select (cmpi .sge (Host.shrsi (extui 32 C natLt_8_32) (broadcastInDim S2560x5120 ![] bcast_S_S2560x5120 (constantI S_ 32 4#32))) (broadcastInDim S2560x5120 ![] bcast_S_S2560x5120 (constantI S_ 32 8#32))) (subi (Host.shrsi (extui 32 C natLt_8_32) (broadcastInDim S2560x5120 ![] bcast_S_S2560x5120 (constantI S_ 32 4#32))) (broadcastInDim S2560x5120 ![] bcast_S_S2560x5120 (constantI S_ 32 16#32))) (Host.shrsi (extui 32 C natLt_8_32) (broadcastInDim S2560x5120 ![] bcast_S_S2560x5120 (constantI S_ 32 4#32))))) (truncf .bf16 (Host.slice S2560x5120 ![0, 1] ![1, 2] (shapeCast _ (broadcastInDim S20x128x10240 ![0, 2] bcast_S20x10240_S20x128x10240_0_2 S) shapeCasts_S20x128x10240_S2560x10240) slicesBy_S2560x10240_S2560x5120_0s1_1s2) bitsLt_bf16_f32))

/-- Both products, interleaved. -/
def both (v : FVec Ideal S5x2560 .bf16) : FVec Ideal S5x10240 .f32 :=
  shapeCast _ (concatenate S5x5120x2 2 [⟨S5x5120x1, (broadcastInDim S5x5120x1 ![0, 1] bcast_S5x5120_S5x5120x1_0_1 (Host.dotGeneral dot_S5x2560_S2560x5120_S5x5120_1_0_0_1_n_n none v (low C S)))⟩, ⟨S5x5120x1, (broadcastInDim S5x5120x1 ![0, 1] bcast_S5x5120_S5x5120x1_0_1 (Host.dotGeneral dot_S5x2560_S2560x5120_S5x5120_1_0_0_1_n_n none v (high C S)))⟩] concatenates_S5x5120x1_S5x5120x1_S5x5120x2_d2) shapeCasts_S5x5120x2_S5x10240

/-- The activation of one product times the other. -/
def gated (g u : FVec Ideal S5x10240 .f32) : FVec Ideal S5x10240 .bf16 :=
  truncf .bf16 (mulf (mulf g (Host.divf (broadcastInDim S5x10240 ![] bcast_S_S5x10240 (constant S_ .f32 0x3F800000#32)) (addf (broadcastInDim S5x10240 ![] bcast_S_S5x10240 (constant S_ .f32 0x3F800000#32)) (Host.exp (Host.negf g))))) u) bitsLt_bf16_f32

theorem res_eq (m : (ℓ : Loc nD τ sig) → Buf (Elt Ideal) ℓ) (c : Dev nD) : Value.res_main_v70 m c
    = gated (both (m ((c.tc : Thread nD τ).loc main_arg2)) (m ((c.tc : Thread nD τ).loc main_arg3)) (masked (m ((c.tc : Thread nD τ).loc main_arg0)) (m ((c.tc : Thread nD τ).loc main_arg1))))
        (both (m ((c.tc : Thread nD τ).loc main_arg4)) (m ((c.tc : Thread nD τ).loc main_arg5)) (masked (m ((c.tc : Thread nD τ).loc main_arg0)) (m ((c.tc : Thread nD τ).loc main_arg1)))) := rfl

theorem masked_apply (r : Fin 5) (d : Fin 2560) : masked X T (ix2 r d) = kept (T ix0) (X (ix3 r 0 d)) := by
  pointwise [masked]
  rfl

/-- The reference's decoding of each nibble is the kernel's. -/
theorem nibble_low : ∀ w : BitVec 8, Scalar.select (IntOp.cmpi .sge (IntOp.andi (w.setWidth 32) 15#32) 8#32) (IntOp.subi (IntOp.andi (w.setWidth 32) 15#32) 16#32) (IntOp.andi (w.setWidth 32) 15#32) = nibble w 0 := by
  decide +kernel

theorem nibble_high : ∀ w : BitVec 8, Scalar.select (IntOp.cmpi .sge (IntOp.shrsi ArithUnit.host (w.setWidth 32) 4#32) 8#32) (IntOp.subi (IntOp.shrsi ArithUnit.host (w.setWidth 32) 4#32) 16#32) (IntOp.shrsi ArithUnit.host (w.setWidth 32) 4#32) = nibble w 1 := by
  decide +kernel

theorem low_apply (d : Fin 2560) (l : Fin 5120) :
    low C S (ix2 d l) = weight (C (ix2 d l)) 0 (S (ix2 ⟨d.val / 128, by omega⟩ ⟨2 * l.val, by omega⟩)) := by
  pointwise [low]
  rw [nibble_low]
  rfl

theorem high_apply (d : Fin 2560) (l : Fin 5120) :
    high C S (ix2 d l) = weight (C (ix2 d l)) 1 (S (ix2 ⟨d.val / 128, by omega⟩ ⟨1 + 2 * l.val, by omega⟩)) := by
  pointwise [high]
  rw [nibble_high]
  rfl

theorem both_apply (v : FVec Ideal S5x2560 .bf16) (r : Fin 5) (j : Fin 10240) :
    both C S v (ix2 r j) = ∑ d : Fin 2560, v (ix2 r d) * weight (C (ix2 d ⟨j.val / 2, by omega⟩)) (j.val % 2) (S (ix2 ⟨d.val / 128, by omega⟩ j)) := by
  pointwise [both]
  split <;> rename_i h <;> refine Finset.sum_congr rfl fun d _ => congrArg _ ?_
  · rw [low_apply]
    have e : (⟨2 * (j.val / 2), by omega⟩ : Fin 10240) = j := Fin.ext (by dsimp only; omega)
    rw [e]
    exact congrArg (fun q => weight _ q _) (show 0 = j.val % 2 by omega)
  · rw [high_apply]
    have e : (⟨1 + 2 * (j.val / 2), by omega⟩ : Fin 10240) = j := Fin.ext (by dsimp only; omega)
    rw [e]
    exact congrArg (fun q => weight _ q _) (show 1 = j.val % 2 by omega)

theorem gated_apply (g u : FVec Ideal S5x10240 .f32) (r : Fin 5) (j : Fin 10240) :
    gated g u (ix2 r j) = g (ix2 r j) * Ideal.logistic (g (ix2 r j)) * u (ix2 r j) := by
  pointwise [gated]
  rfl

/-- One product's column. -/
def prod (r : Fin 5) (j : Fin 10240) : EReal :=
  ∑ d : Fin 2560, kept (T ix0) (X (ix3 r 0 d)) * weight (C (ix2 d ⟨j.val / 2, by omega⟩)) (j.val % 2) (S (ix2 ⟨d.val / 128, by omega⟩ j))

theorem both_masked (r : Fin 5) (j : Fin 10240) : both C S (masked X T) (ix2 r j) = prod X T C S r j := by
  rw [both_apply]
  unfold prod
  refine Finset.sum_congr rfl fun d _ => ?_
  rw [masked_apply]

/-- The reference's result, in closed form. -/
theorem ref_apply (C' : IVec S2560x5120 8) (S' : FVec Ideal S20x10240 .f32) (r : Fin 5) (j : Fin 10240) :
    gated (both C S (masked X T)) (both C' S' (masked X T)) (ix2 r j)
      = prod X T C S r j * Ideal.logistic (prod X T C S r j) * prod X T C' S' r j := by
  rw [gated_apply, both_masked, both_masked]

end Cert.ReferenceIdeal.Hand

end
-- ==== Proof.Value.Final.lean ====
module

public import proofs.«01_k».proof.Proof.Value.Result
public import proofs.«01_k».proof.Proof.Value.Ref
public import proofs.«01_k».proof.Proof.Ideal.Launch

@[expose] public section

noncomputable section

namespace Cert.KernelIdeal.Hand

open Cert.KernelIdeal Cert.KernelIdeal.Gen
open Idealize.ShloMosaic Idealize.ShloMosaic.TcCoe Idealize.ShloMosaic.Tactic

open Cert.ReferenceIdeal.Hand (prod)

/-- A block's column of the product is the whole product's column. -/
theorem proj_eq (t : EReal) (x : S5x2560.Idx → EReal) (X : S5x1x2560.Idx → EReal) (T : S_.Idx → EReal) (C : S2560x5120.Idx → BitVec 8) (S : S20x10240.Idx → EReal)
    (ht : t = T ix0) (hx : ∀ (r : Fin 5) (d : Fin 2560), x (ix2 r d) = X (ix3 r 0 d)) (r : Fin 5) (j : Fin 10240) :
    proj t x (codeBlocks (F := Ideal) C) (scaleBlocks (F := Ideal) S) ⟨j.val / 512, by omega⟩ r ⟨j.val % 512, by omega⟩ = prod X T C S r j := by
  unfold proj prod
  refine Finset.sum_congr rfl fun d _ => ?_
  rw [ht, hx]
  have e1 : codeBlocks (F := Ideal) C (ix3 (⟨j.val / 512, by omega⟩ : Fin 20) d (⟨j.val % 512 / 2, by omega⟩ : Fin 256)) = C (ix2 d ⟨j.val / 2, by omega⟩) := by
    refine congrArg C (funext fun a => Fin.ext ?_)
    match a with
    | 0 => rfl
    | 1 => show 256 * (j.val / 512) + j.val % 512 / 2 = j.val / 2; omega
  have e2 : scaleBlocks (F := Ideal) S (ix3 (⟨j.val / 512, by omega⟩ : Fin 20) (⟨d.val / 128, by omega⟩ : Fin 20) (⟨j.val % 512, by omega⟩ : Fin 512)) = S (ix2 ⟨d.val / 128, by omega⟩ j) := by
    refine congrArg S (funext fun a => Fin.ext ?_)
    match a with
    | 0 => rfl
    | 1 => show 512 * (j.val / 512) + j.val % 512 = j.val; omega
  have e3 : j.val % 512 % 2 = j.val % 2 := by omega
  rw [e1, e2]
  exact congrArg (fun q => _ * weight _ q _) e3

variable (m : (ℓ : Loc nD τ sig) → Buf (Elt Ideal) ℓ) (c : Dev nD)

set_option maxRecDepth 16384 in
/-- The activations as the region finds them. -/
theorem V_x (r : Fin 5) (d : Fin 2560) : V m c main_v0 (ix2 r d) = m ((c : Thread nD τ).loc main_arg0) (ix3 r 0 d) := by
  have e : V m c main_v0 = shapeCast S5x2560 (m ((c : Thread nD τ).loc main_arg0)) shapeCasts_S5x1x2560_S5x2560 := by
    unfold V hostOps0
    after_results_simp
    rfl
  rw [e]
  pointwise []

set_option maxRecDepth 16384 in
/-- The threshold as the region finds it. -/
theorem V_t : V m c main_v1 (ix1 0) = m ((c : Thread nD τ).loc main_arg1) ix0 := by
  have e : V m c main_v1 = shapeCast S1 (m ((c : Thread nD τ).loc main_arg1)) shapeCasts_S_S1 := by
    unfold V hostOps0
    after_results_simp
    rfl
  rw [e]
  pointwise []

theorem threshold_eq (ft : Bf (F := Ideal) c (st0_0 t0_0)) (h : (st0_0 t0_0).view.read (Elt Ideal) ft = iblk m c 0 t0_0) :
    bodyRun.sl.r c (st0_0 t0_0) ft = m ((c : Thread nD τ).loc main_arg1) ix0 := by
  refine Eq.trans ?_ (V_t m c)
  show (st0_0 t0_0).view.read (Elt Ideal) ft ((Rect.unit (s := S1) ![0] S1.size inb_S1_S1_0).toLoadRect.idx _) = _
  rw [h]
  unfold iblk
  refine congrArg (V m c main_v1) (funext fun a => Fin.ext ?_)
  match a with
  | 0 => exact Nat.lt_one_iff.mp (Fin.isLt _)

/-- What the body leaves in the result's array is what the loop left in its buffer. -/
theorem body_result (arg1 : Memref sig .tc .smem S1 .f32)
    (ft : Bf (F := Ideal) c arg1) (fx : Bf (F := Ideal) c xH) (x0 : Bf (F := Ideal) c xV)
    (Ggc : Bf (F := Ideal) c gcV) (Ggs : Bf (F := Ideal) c gsV) (Guc : Bf (F := Ideal) c ucV) (Gus : Bf (F := Ideal) c usV) (y0 : Bf (F := Ideal) c yV) (z0 : Bf (F := Ideal) c yH) :
    (bodyRun c arg1 ft fx x0 Ggc Ggs Guc Gus y0 z0).1.2
      = yAt c (lhsV.view.writes (Elt Ideal) lhsV.view.junk (bodyRun.sl.Hl_40 c arg1 ft fx x0)) Ggc Guc Ggs Gus y0 20 := by
  delta bodyRun
  dsimp only
  refine (View.write_whole_univ main_v2 z0 _).trans ?_
  have ht : Scf.trips k0_t1_loop.lb k0_t1_loop.ub k0_t1_loop.st = 20 := by decide
  unfold bodyRun.sl.dma0_1
  rw [ht]
  rfl

/-- The result, in the reference's closed form. -/
theorem result_apply (R : Bf (F := Ideal) c yH) (h : Res m c R) (r : Fin 5) (j : Fin 10240) :
    R (ix2 r j) = prod (m ((c : Thread nD τ).loc main_arg0)) (m ((c : Thread nD τ).loc main_arg1)) (m ((c : Thread nD τ).loc main_arg2)) (m ((c : Thread nD τ).loc main_arg3)) r j
      * Ideal.logistic (prod (m ((c : Thread nD τ).loc main_arg0)) (m ((c : Thread nD τ).loc main_arg1)) (m ((c : Thread nD τ).loc main_arg2)) (m ((c : Thread nD τ).loc main_arg3)) r j)
      * prod (m ((c : Thread nD τ).loc main_arg0)) (m ((c : Thread nD τ).loc main_arg1)) (m ((c : Thread nD τ).loc main_arg4)) (m ((c : Thread nD τ).loc main_arg5)) r j := by
  obtain ⟨ft, x0, y0, z0, hft, hR⟩ := h
  rw [V_main_arg2, V_main_arg3, V_main_arg4, V_main_arg5] at hR
  have e : R (ix2 r j) = yAt c (lhsV.view.writes (Elt Ideal) lhsV.view.junk (bodyRun.sl.Hl_40 c (st0_0 t0_0) ft (V m c main_v0) x0))
      (codeBlocks (m ((c : Thread nD τ).loc main_arg2))) (codeBlocks (m ((c : Thread nD τ).loc main_arg4)))
      (scaleBlocks (m ((c : Thread nD τ).loc main_arg3))) (scaleBlocks (m ((c : Thread nD τ).loc main_arg5))) y0 20 (ix2 r j) := by
    rw [hR, body_result]
  rw [e, yAt_apply c _ _ _ _ _ y0 _ _ (lhs_apply c (st0_0 t0_0) ft (V m c main_v0) x0) 20 (Nat.le_refl _) r j (by omega)]
  unfold res
  rw [proj_eq _ _ _ _ _ _ (threshold_eq m c ft hft) (V_x m c), proj_eq _ _ _ _ _ _ (threshold_eq m c ft hft) (V_x m c)]

/-- Any result the kernel may leave is the reference's, on arguments that agree. -/
theorem result_eq (m' : (ℓ : Loc Cert.ReferenceIdeal.nD Cert.ReferenceIdeal.τ Cert.ReferenceIdeal.sig) → Buf (Elt Ideal) ℓ)
    (h0 : m' ((c.tc : Thread Cert.ReferenceIdeal.nD Cert.ReferenceIdeal.τ).loc Cert.ReferenceIdeal.main_arg0) = m ((c.tc : Thread nD τ).loc main_arg0))
    (h1 : m' ((c.tc : Thread Cert.ReferenceIdeal.nD Cert.ReferenceIdeal.τ).loc Cert.ReferenceIdeal.main_arg1) = m ((c.tc : Thread nD τ).loc main_arg1))
    (h2 : m' ((c.tc : Thread Cert.ReferenceIdeal.nD Cert.ReferenceIdeal.τ).loc Cert.ReferenceIdeal.main_arg2) = m ((c.tc : Thread nD τ).loc main_arg2))
    (h3 : m' ((c.tc : Thread Cert.ReferenceIdeal.nD Cert.ReferenceIdeal.τ).loc Cert.ReferenceIdeal.main_arg3) = m ((c.tc : Thread nD τ).loc main_arg3))
    (h4 : m' ((c.tc : Thread Cert.ReferenceIdeal.nD Cert.ReferenceIdeal.τ).loc Cert.ReferenceIdeal.main_arg4) = m ((c.tc : Thread nD τ).loc main_arg4))
    (h5 : m' ((c.tc : Thread Cert.ReferenceIdeal.nD Cert.ReferenceIdeal.τ).loc Cert.ReferenceIdeal.main_arg5) = m ((c.tc : Thread nD τ).loc main_arg5))
    (R : Bf (F := Ideal) c yH) (h : Res m c R) : R = Cert.ReferenceIdeal.Value.res_main_v70 m' c := by
  funext i
  obtain ⟨r, j, rfl⟩ : ∃ (r : Fin 5) (j : Fin 10240), i = ix2 r j := ⟨i 0, i 1, funext fun a => by match a with | 0 => rfl | 1 => rfl⟩
  rw [result_apply m c R h, Cert.ReferenceIdeal.Hand.res_eq, h0, h1, h2, h3, h4, h5]
  exact (Cert.ReferenceIdeal.Hand.ref_apply _ _ _ _ _ _ r j).symm

end Cert.KernelIdeal.Hand

end
-- ==== Proof.lean ====
/- The proof of the claims in `Defs.lean`.

   * The two kernel frames are `Proof/Bits/Launch.lean` (the kernel on machine values) and `Proof/Ideal/Launch.lean`
     (its reading over the extended reals); the two are the same proof over two programs.
   * The reference runs on the host alone, so its frame is that of its printed operations.
   * `algebraic` takes the value the kernel's run leaves (`Proof/Ideal/Launch.lean`) and reads it element by element
     (`Proof/Value/`) until both programs stand as the same two sums over the 2560 activations.
   * `preserves` is the rules' own theorems at the shapes the idealization used them at.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Bits.Launch
public import proofs.«01_k».proof.Proof.Ideal.Launch
public import proofs.«01_k».proof.Proof.Value.Final
public import Idealize.ShloMosaic.Lib.Bf16PairInverse
public import Idealize.ShloMosaic.Lib.Quiescent
public import Idealize.ShloMosaic.Adequacy
public import Idealize.ShloMosaic.Init

@[expose] public section

noncomputable section

namespace Cert.Proof

open Idealize.ShloMosaic Idealize.SL.Sem

/-- Each operation the idealization replaced is one of the rules' statements. -/
theorem preserves : Cert.preserves_Kernel_KernelIdeal :=
  ⟨IdealRules.bf16_pair.bufferStatement _ _, IdealRules.bf16_pair.packStatement _, IdealRules.bf16_pair.statement _ _,
    IdealRules.bf16_pair.statement _ _, IdealRules.bf16_pair.statement _ _⟩

theorem reference_frame : Cert.quiescent_ReferenceIdeal := fun m ρ _ =>
  (θ_run Cert.ReferenceIdeal.defs _ _).mono
    (fun r h => ⟨fun c => (h c).2, sem_eq_zero_of_no_sems (by decide) r.2⟩)
    (Cert.ReferenceIdeal.Value.run (F := Ideal) m ρ)

theorem algebraic : Cert.algebraic_KernelIdeal_ReferenceIdeal := fun m g m' g' _ hm =>
  ⟨fun c => Cert.ReferenceIdeal.Value.res_main_v70 m' c,
    (θ_run Cert.KernelIdeal.defs _ _).mono
      (fun r h c => by
        obtain ⟨⟨h0, h1, h2, h3, h4, h5⟩, hR⟩ := h.1 c
        obtain ⟨a0, a1, a2, a3, a4, a5⟩ := hm c
        exact ⟨Cert.KernelIdeal.Hand.result_eq m c m' a0 a1 a2 a3 a4 a5 _ hR,
          h0.trans (Cert.KernelIdeal.Gen.V_main_arg0 m c), h1.trans (Cert.KernelIdeal.Gen.V_main_arg1 m c),
          h2.trans (Cert.KernelIdeal.Gen.V_main_arg2 m c), h3.trans (Cert.KernelIdeal.Gen.V_main_arg3 m c),
          h4.trans (Cert.KernelIdeal.Gen.V_main_arg4 m c), h5.trans (Cert.KernelIdeal.Gen.V_main_arg5 m c)⟩)
      (Cert.KernelIdeal.Hand.run_main m g),
    Cert.ReferenceIdeal.Value.run (F := Ideal) m' g'⟩

theorem claim : Cert.Claim := ⟨Cert.Kernel.Gen.facts, Cert.KernelIdeal.Gen.facts, Cert.ReferenceIdeal.Gen.facts,
  fun m ρ _ => Cert.Kernel.Hand.frame m ρ, fun m ρ _ => Cert.KernelIdeal.Hand.frame m ρ, reference_frame, preserves, algebraic⟩

end Cert.Proof

end
